-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_KernelInprojIdeal_finite_inproj [hPre_finite_inproj : Cert.Pre_finite_inproj.Facts] (m : (ℓ : Loc Cert.KernelInprojIdeal.nD Cert.KernelInprojIdeal.τ Cert.KernelInprojIdeal.sig) → Buf (Elt Ideal) ℓ) : Prop :=
  ∀ c : Dev Cert.KernelInprojIdeal.nD,
    (Cert.Pre_finite_inproj.fn (F := Ideal) (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4))) = (fun _ => 1#1)

def Pre_ReferenceInprojIdeal (m : (ℓ : Loc Cert.ReferenceInprojIdeal.nD Cert.ReferenceInprojIdeal.τ Cert.ReferenceInprojIdeal.sig) → Buf (Elt Ideal) ℓ) : Prop :=
  True

def Pre_ReferenceInprojIdeal_finite_inproj [hPre_finite_inproj : Cert.Pre_finite_inproj.Facts] (m : (ℓ : Loc Cert.ReferenceInprojIdeal.nD Cert.ReferenceInprojIdeal.τ Cert.ReferenceInprojIdeal.sig) → Buf (Elt Ideal) ℓ) : Prop :=
  ∀ c : Dev Cert.ReferenceInprojIdeal.nD,
    (Cert.Pre_finite_inproj.fn (F := Ideal) (m ((c.tc : Thread Cert.ReferenceInprojIdeal.nD Cert.ReferenceInprojIdeal.τ).loc Cert.ReferenceInprojIdeal.main_arg0)) (m ((c.tc : Thread Cert.ReferenceInprojIdeal.nD Cert.ReferenceInprojIdeal.τ).loc Cert.ReferenceInprojIdeal.main_arg1)) (m ((c.tc : Thread Cert.ReferenceInprojIdeal.nD Cert.ReferenceInprojIdeal.τ).loc Cert.ReferenceInprojIdeal.main_arg2)) (m ((c.tc : Thread Cert.ReferenceInprojIdeal.nD Cert.ReferenceInprojIdeal.τ).loc Cert.ReferenceInprojIdeal.main_arg3)) (m ((c.tc : Thread Cert.ReferenceInprojIdeal.nD Cert.ReferenceInprojIdeal.τ).loc Cert.ReferenceInprojIdeal.main_arg4))) = (fun _ => 1#1)

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_padded [hPre_padded : Cert.Pre_padded.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_padded.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2)) (m ((c.tc : Thread Cert.KernelPrepIdeal.nD Cert.KernelPrepIdeal.τ).loc Cert.KernelPrepIdeal.main_arg3)) (m ((c.tc : Thread Cert.KernelPrepIdeal.nD Cert.KernelPrepIdeal.τ).loc Cert.KernelPrepIdeal.main_arg4)) (m ((c.tc : Thread Cert.KernelPrepIdeal.nD Cert.KernelPrepIdeal.τ).loc Cert.KernelPrepIdeal.main_arg5)) (m ((c.tc : Thread Cert.KernelPrepIdeal.nD Cert.KernelPrepIdeal.τ).loc Cert.KernelPrepIdeal.main_arg6)) (m ((c.tc : Thread Cert.KernelPrepIdeal.nD Cert.KernelPrepIdeal.τ).loc Cert.KernelPrepIdeal.main_arg7)) (m ((c.tc : Thread Cert.KernelPrepIdeal.nD Cert.KernelPrepIdeal.τ).loc Cert.KernelPrepIdeal.main_arg8))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_padded [hPre_padded : Cert.Pre_padded.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_padded.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2)) (m ((c.tc : Thread Cert.ReferencePrepIdeal.nD Cert.ReferencePrepIdeal.τ).loc Cert.ReferencePrepIdeal.main_arg3)) (m ((c.tc : Thread Cert.ReferencePrepIdeal.nD Cert.ReferencePrepIdeal.τ).loc Cert.ReferencePrepIdeal.main_arg4)) (m ((c.tc : Thread Cert.ReferencePrepIdeal.nD Cert.ReferencePrepIdeal.τ).loc Cert.ReferencePrepIdeal.main_arg5)) (m ((c.tc : Thread Cert.ReferencePrepIdeal.nD Cert.ReferencePrepIdeal.τ).loc Cert.ReferencePrepIdeal.main_arg6)) (m ((c.tc : Thread Cert.ReferencePrepIdeal.nD Cert.ReferencePrepIdeal.τ).loc Cert.ReferencePrepIdeal.main_arg7)) (m ((c.tc : Thread Cert.ReferencePrepIdeal.nD Cert.ReferencePrepIdeal.τ).loc Cert.ReferencePrepIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ r.2.sem = fun _ => 0)

def quiescent_KernelInprojIdeal_pre_finite_inproj [hKernelInprojIdeal : Cert.KernelInprojIdeal.Facts] [hPre_finite_inproj : Cert.Pre_finite_inproj.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal_finite_inproj m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4))
      ∧ r.2.sem = fun _ => 0)

def quiescent_ReferenceInprojIdeal_pre_finite_inproj [hReferenceInprojIdeal : Cert.ReferenceInprojIdeal.Facts] [hPre_finite_inproj : Cert.Pre_finite_inproj.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal_finite_inproj m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7)
      ∧ r.2.mem ((c.tc : Thread Cert.KernelPrep.nD Cert.KernelPrep.τ).loc Cert.KernelPrep.main_arg8) = m ((c.tc : Thread Cert.KernelPrep.nD Cert.KernelPrep.τ).loc Cert.KernelPrep.main_arg8))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8))
      ∧ r.2.sem = fun _ => 0)

def quiescent_KernelPrepIdeal_pre_padded [hKernelPrepIdeal : Cert.KernelPrepIdeal.Facts] [hPre_padded : Cert.Pre_padded.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_padded m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8))
      ∧ r.2.sem = fun _ => 0)

def quiescent_ReferencePrepIdeal_pre_padded [hReferencePrepIdeal : Cert.ReferencePrepIdeal.Facts] [hPre_padded : Cert.Pre_padded.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_padded m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v20) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v6)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v6) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v20) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelInproj_KernelInprojIdeal : Prop :=
  True

def algebraic_KernelInprojIdeal_ReferenceInprojIdeal_pre_finite_inproj [hKernelInprojIdeal : Cert.KernelInprojIdeal.Facts] [hReferenceInprojIdeal : Cert.ReferenceInprojIdeal.Facts] [hPre_finite_inproj : Cert.Pre_finite_inproj.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal_finite_inproj m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)
      ∧ m' ((c.tc : Thread Cert.ReferenceInprojIdeal.nD Cert.ReferenceInprojIdeal.τ).loc Cert.ReferenceInprojIdeal.main_arg4) = m ((c.tc : Thread Cert.KernelInprojIdeal.nD Cert.KernelInprojIdeal.τ).loc Cert.KernelInprojIdeal.main_arg4)) →
    ∃ (v0 : (c : Dev Cert.KernelInprojIdeal.nD) → Buf (Elt Ideal) ((c.tc : Thread Cert.KernelInprojIdeal.nD Cert.KernelInprojIdeal.τ).loc Cert.KernelInprojIdeal.main_v30_0)) (v1 : (c : Dev Cert.KernelInprojIdeal.nD) → Buf (Elt Ideal) ((c.tc : Thread Cert.KernelInprojIdeal.nD Cert.KernelInprojIdeal.τ).loc Cert.KernelInprojIdeal.main_v30_1)) (v2 : (c : Dev Cert.KernelInprojIdeal.nD) → Buf (Elt Ideal) ((c.tc : Thread Cert.KernelInprojIdeal.nD Cert.KernelInprojIdeal.τ).loc Cert.KernelInprojIdeal.main_v30_2)) (v3 : (c : Dev Cert.KernelInprojIdeal.nD) → Buf (Elt Ideal) ((c.tc : Thread Cert.KernelInprojIdeal.nD Cert.KernelInprojIdeal.τ).loc Cert.KernelInprojIdeal.main_v30_3)) (v4 : (c : Dev Cert.KernelInprojIdeal.nD) → Buf (Elt Ideal) ((c.tc : Thread Cert.KernelInprojIdeal.nD Cert.KernelInprojIdeal.τ).loc Cert.KernelInprojIdeal.main_v30_4)) (v5 : (c : Dev Cert.KernelInprojIdeal.nD) → Buf (Elt Ideal) ((c.tc : Thread Cert.KernelInprojIdeal.nD Cert.KernelInprojIdeal.τ).loc Cert.KernelInprojIdeal.main_v30_5)) (v6 : (c : Dev Cert.KernelInprojIdeal.nD) → Buf (Elt Ideal) ((c.tc : Thread Cert.KernelInprojIdeal.nD Cert.KernelInprojIdeal.τ).loc Cert.KernelInprojIdeal.main_v30_6)) (v7 : (c : Dev Cert.KernelInprojIdeal.nD) → Buf (Elt Ideal) ((c.tc : Thread Cert.KernelInprojIdeal.nD Cert.KernelInprojIdeal.τ).loc Cert.KernelInprojIdeal.main_v30_7)) (v8 : (c : Dev Cert.KernelInprojIdeal.nD) → Buf (Elt Ideal) ((c.tc : Thread Cert.KernelInprojIdeal.nD Cert.KernelInprojIdeal.τ).loc Cert.KernelInprojIdeal.main_v30_8)) (v9 : (c : Dev Cert.KernelInprojIdeal.nD) → Buf (Elt Ideal) ((c.tc : Thread Cert.KernelInprojIdeal.nD Cert.KernelInprojIdeal.τ).loc Cert.KernelInprojIdeal.main_v30_9)) (v10 : (c : Dev Cert.KernelInprojIdeal.nD) → Buf (Elt Ideal) ((c.tc : Thread Cert.KernelInprojIdeal.nD Cert.KernelInprojIdeal.τ).loc Cert.KernelInprojIdeal.main_v30_10)) (v11 : (c : Dev Cert.KernelInprojIdeal.nD) → Buf (Elt Ideal) ((c.tc : Thread Cert.KernelInprojIdeal.nD Cert.KernelInprojIdeal.τ).loc Cert.KernelInprojIdeal.main_v30_11)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v30_0) = v0 c
          ∧ r.2.mem ((c.tc : Thread Cert.KernelInprojIdeal.nD Cert.KernelInprojIdeal.τ).loc Cert.KernelInprojIdeal.main_v30_1) = v1 c
          ∧ r.2.mem ((c.tc : Thread Cert.KernelInprojIdeal.nD Cert.KernelInprojIdeal.τ).loc Cert.KernelInprojIdeal.main_v30_2) = v2 c
          ∧ r.2.mem ((c.tc : Thread Cert.KernelInprojIdeal.nD Cert.KernelInprojIdeal.τ).loc Cert.KernelInprojIdeal.main_v30_3) = v3 c
          ∧ r.2.mem ((c.tc : Thread Cert.KernelInprojIdeal.nD Cert.KernelInprojIdeal.τ).loc Cert.KernelInprojIdeal.main_v30_4) = v4 c
          ∧ r.2.mem ((c.tc : Thread Cert.KernelInprojIdeal.nD Cert.KernelInprojIdeal.τ).loc Cert.KernelInprojIdeal.main_v30_5) = v5 c
          ∧ r.2.mem ((c.tc : Thread Cert.KernelInprojIdeal.nD Cert.KernelInprojIdeal.τ).loc Cert.KernelInprojIdeal.main_v30_6) = v6 c
          ∧ r.2.mem ((c.tc : Thread Cert.KernelInprojIdeal.nD Cert.KernelInprojIdeal.τ).loc Cert.KernelInprojIdeal.main_v30_7) = v7 c
          ∧ r.2.mem ((c.tc : Thread Cert.KernelInprojIdeal.nD Cert.KernelInprojIdeal.τ).loc Cert.KernelInprojIdeal.main_v30_8) = v8 c
          ∧ r.2.mem ((c.tc : Thread Cert.KernelInprojIdeal.nD Cert.KernelInprojIdeal.τ).loc Cert.KernelInprojIdeal.main_v30_9) = v9 c
          ∧ r.2.mem ((c.tc : Thread Cert.KernelInprojIdeal.nD Cert.KernelInprojIdeal.τ).loc Cert.KernelInprojIdeal.main_v30_10) = v10 c
          ∧ r.2.mem ((c.tc : Thread Cert.KernelInprojIdeal.nD Cert.KernelInprojIdeal.τ).loc Cert.KernelInprojIdeal.main_v30_11) = v11 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
          ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v62) = v0 c
          ∧ r.2.mem ((c.tc : Thread Cert.ReferenceInprojIdeal.nD Cert.ReferenceInprojIdeal.τ).loc Cert.ReferenceInprojIdeal.main_v63) = v1 c
          ∧ r.2.mem ((c.tc : Thread Cert.ReferenceInprojIdeal.nD Cert.ReferenceInprojIdeal.τ).loc Cert.ReferenceInprojIdeal.main_v64) = v2 c
          ∧ r.2.mem ((c.tc : Thread Cert.ReferenceInprojIdeal.nD Cert.ReferenceInprojIdeal.τ).loc Cert.ReferenceInprojIdeal.main_v17) = v3 c
          ∧ r.2.mem ((c.tc : Thread Cert.ReferenceInprojIdeal.nD Cert.ReferenceInprojIdeal.τ).loc Cert.ReferenceInprojIdeal.main_v18) = v4 c
          ∧ r.2.mem ((c.tc : Thread Cert.ReferenceInprojIdeal.nD Cert.ReferenceInprojIdeal.τ).loc Cert.ReferenceInprojIdeal.main_v19) = v5 c
          ∧ r.2.mem ((c.tc : Thread Cert.ReferenceInprojIdeal.nD Cert.ReferenceInprojIdeal.τ).loc Cert.ReferenceInprojIdeal.main_v20) = v6 c
          ∧ r.2.mem ((c.tc : Thread Cert.ReferenceInprojIdeal.nD Cert.ReferenceInprojIdeal.τ).loc Cert.ReferenceInprojIdeal.main_v58) = v7 c
          ∧ r.2.mem ((c.tc : Thread Cert.ReferenceInprojIdeal.nD Cert.ReferenceInprojIdeal.τ).loc Cert.ReferenceInprojIdeal.main_v23) = v8 c
          ∧ r.2.mem ((c.tc : Thread Cert.ReferenceInprojIdeal.nD Cert.ReferenceInprojIdeal.τ).loc Cert.ReferenceInprojIdeal.main_v24) = v9 c
          ∧ r.2.mem ((c.tc : Thread Cert.ReferenceInprojIdeal.nD Cert.ReferenceInprojIdeal.τ).loc Cert.ReferenceInprojIdeal.main_v59) = v10 c
          ∧ r.2.mem ((c.tc : Thread Cert.ReferenceInprojIdeal.nD Cert.ReferenceInprojIdeal.τ).loc Cert.ReferenceInprojIdeal.main_v71) = v11 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4))

def preserves_KernelPrep_KernelPrepIdeal : Prop :=
  IdealRules.named_const.Statement Cert.KernelPrepIdeal.κ "inv_head" .f32 0x3BAAAAAB#32 ((1 / 192 : ℝ) : EReal)

def algebraic_KernelPrepIdeal_ReferencePrepIdeal_pre_padded [hKernelPrepIdeal : Cert.KernelPrepIdeal.Facts] [hReferencePrepIdeal : Cert.ReferencePrepIdeal.Facts] [hPre_padded : Cert.Pre_padded.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_padded m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)
      ∧ m' ((c.tc : Thread Cert.ReferencePrepIdeal.nD Cert.ReferencePrepIdeal.τ).loc Cert.ReferencePrepIdeal.main_arg6) = m ((c.tc : Thread Cert.KernelPrepIdeal.nD Cert.KernelPrepIdeal.τ).loc Cert.KernelPrepIdeal.main_arg6)
      ∧ m' ((c.tc : Thread Cert.ReferencePrepIdeal.nD Cert.ReferencePrepIdeal.τ).loc Cert.ReferencePrepIdeal.main_arg7) = m ((c.tc : Thread Cert.KernelPrepIdeal.nD Cert.KernelPrepIdeal.τ).loc Cert.KernelPrepIdeal.main_arg7)
      ∧ m' ((c.tc : Thread Cert.ReferencePrepIdeal.nD Cert.ReferencePrepIdeal.τ).loc Cert.ReferencePrepIdeal.main_arg8) = m ((c.tc : Thread Cert.KernelPrepIdeal.nD Cert.KernelPrepIdeal.τ).loc Cert.KernelPrepIdeal.main_arg8)) →
    ∃ (v0 : (c : Dev Cert.KernelPrepIdeal.nD) → Buf (Elt Ideal) ((c.tc : Thread Cert.KernelPrepIdeal.nD Cert.KernelPrepIdeal.τ).loc Cert.KernelPrepIdeal.main_v37_0)) (v1 : (c : Dev Cert.KernelPrepIdeal.nD) → Buf (Elt Ideal) ((c.tc : Thread Cert.KernelPrepIdeal.nD Cert.KernelPrepIdeal.τ).loc Cert.KernelPrepIdeal.main_v37_1)) (v2 : (c : Dev Cert.KernelPrepIdeal.nD) → Buf (Elt Ideal) ((c.tc : Thread Cert.KernelPrepIdeal.nD Cert.KernelPrepIdeal.τ).loc Cert.KernelPrepIdeal.main_v37_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v37_0) = v0 c
          ∧ r.2.mem ((c.tc : Thread Cert.KernelPrepIdeal.nD Cert.KernelPrepIdeal.τ).loc Cert.KernelPrepIdeal.main_v37_1) = v1 c
          ∧ r.2.mem ((c.tc : Thread Cert.KernelPrepIdeal.nD Cert.KernelPrepIdeal.τ).loc Cert.KernelPrepIdeal.main_v37_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
          ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
          ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
          ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v114) = v0 c
          ∧ r.2.mem ((c.tc : Thread Cert.ReferencePrepIdeal.nD Cert.ReferencePrepIdeal.τ).loc Cert.ReferencePrepIdeal.main_v117) = v1 c
          ∧ r.2.mem ((c.tc : Thread Cert.ReferencePrepIdeal.nD Cert.ReferencePrepIdeal.τ).loc Cert.ReferencePrepIdeal.main_v119) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
          ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
          ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
          ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelInproj : Cert.KernelInproj.Facts) (hKernelInprojIdeal : Cert.KernelInprojIdeal.Facts) (hReferenceInprojIdeal : Cert.ReferenceInprojIdeal.Facts) (hKernelPrep : Cert.KernelPrep.Facts) (hKernelPrepIdeal : Cert.KernelPrepIdeal.Facts) (hReferencePrepIdeal : Cert.ReferencePrepIdeal.Facts) (hPre_finite : Cert.Pre_finite.Facts) (hPre_finite_inproj : Cert.Pre_finite_inproj.Facts) (hPre_padded : Cert.Pre_padded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelInproj (hKernelInproj := hKernelInproj)
    ∧ quiescent_KernelInprojIdeal (hKernelInprojIdeal := hKernelInprojIdeal)
    ∧ quiescent_KernelInprojIdeal_pre_finite_inproj (hKernelInprojIdeal := hKernelInprojIdeal) (hPre_finite_inproj := hPre_finite_inproj)
    ∧ quiescent_ReferenceInprojIdeal (hReferenceInprojIdeal := hReferenceInprojIdeal)
    ∧ quiescent_ReferenceInprojIdeal_pre_finite_inproj (hReferenceInprojIdeal := hReferenceInprojIdeal) (hPre_finite_inproj := hPre_finite_inproj)
    ∧ quiescent_KernelPrep (hKernelPrep := hKernelPrep)
    ∧ quiescent_KernelPrepIdeal (hKernelPrepIdeal := hKernelPrepIdeal)
    ∧ quiescent_KernelPrepIdeal_pre_padded (hKernelPrepIdeal := hKernelPrepIdeal) (hPre_padded := hPre_padded)
    ∧ quiescent_ReferencePrepIdeal (hReferencePrepIdeal := hReferencePrepIdeal)
    ∧ quiescent_ReferencePrepIdeal_pre_padded (hReferencePrepIdeal := hReferencePrepIdeal) (hPre_padded := hPre_padded)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelInproj_KernelInprojIdeal
    ∧ algebraic_KernelInprojIdeal_ReferenceInprojIdeal_pre_finite_inproj (hKernelInprojIdeal := hKernelInprojIdeal) (hReferenceInprojIdeal := hReferenceInprojIdeal) (hPre_finite_inproj := hPre_finite_inproj)
    ∧ preserves_KernelPrep_KernelPrepIdeal
    ∧ algebraic_KernelPrepIdeal_ReferencePrepIdeal_pre_padded (hKernelPrepIdeal := hKernelPrepIdeal) (hReferencePrepIdeal := hReferencePrepIdeal) (hPre_padded := hPre_padded)
-- ==== Pre_finite.lean ====
abbrev S4x4096x1024 : Shape := ⟨3, ![4, 4096, 1024]⟩
abbrev S4x4096x512 : Shape := ⟨3, ![4, 4096, 512]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .bf16) (main_arg1 : FVec F S4x4096x1024 .bf16) (main_arg2 : FVec F S4x4096x512 .bf16) : IVec S_ 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  let main_v5 : FVec F S4x4096x1024 .f32 := (extf .f32 · bitsLt_bf16_f32) main_arg1
  let main_v6 : FVec F S4x4096x1024 .f32 := Host.absf main_v5
  let main_cst_0 : FVec F S_ .f32 := constant S_ .f32 0x7F800000#32
  let main_v7 : FVec F S4x4096x1024 .f32 := broadcastInDim S4x4096x1024 ![] bcast_S_S4x4096x1024 main_cst_0
  let main_v8 : IVec S4x4096x1024 1 := cmpf .olt main_v6 main_v7
  let main_c_1 : IVec S_ 1 := constantI S_ 1 1#1
  let main_v9 : IVec S_ 1 := (fun x v => Host.reduce IntOp.andi x v reducesTo_S4x4096x1024_S_d0_1_2 h_S_) main_v8 main_c_1
  let main_v10 : IVec S_ 1 := andi main_v4 main_v9
  main_v10
-- ==== Pre_finite_inproj.lean ====
abbrev S16384x1024 : Shape := ⟨2, ![16384, 1024]⟩
abbrev S1024 : Shape := ⟨1, ![1024]⟩
abbrev S1024x6752 : Shape := ⟨2, ![1024, 6752]⟩
abbrev S64 : Shape := ⟨1, ![64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6752 : S_.BroadcastsInDim S1024x6752 (![] : Fin 0 → Fin S1024x6752.rank)
  reducesTo_S1024x6752_S_d0_1 : S1024x6752.ReducesTo [0, 1] S_

variable [Facts]

def fn {F : FTy → Type} [FloatOps F] (main_arg0 : FVec F S16384x1024 .f32) (main_arg1 : FVec F S1024 .f32) (main_arg2 : FVec F S1024x6752 .f32) (main_arg3 : FVec F S64 .f32) (main_arg4 : FVec F S64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6752 .f32 := Host.absf main_arg2
  let main_cst_2 : FVec F S_ .f32 := constant S_ .f32 0x7F800000#32
  let main_v10 : FVec F S1024x6752 .f32 := broadcastInDim S1024x6752 ![] bcast_S_S1024x6752 main_cst_2
  let main_v11 : IVec S1024x6752 1 := cmpf .olt main_v9 main_v10
  let main_c_3 : IVec S_ 1 := constantI S_ 1 1#1
  let main_v12 : IVec S_ 1 := (fun x v => Host.reduce IntOp.andi x v reducesTo_S1024x6752_S_d0_1 h_S_) main_v11 main_c_3
  let main_v13 : IVec S_ 1 := andi main_v8 main_v12
  main_v13
-- ==== Pre_padded.lean ====
abbrev S16384x256 : Shape := ⟨2, ![16384, 256]⟩
abbrev S16384x128 : Shape := ⟨2, ![16384, 128]⟩
abbrev S256 : Shape := ⟨1, ![256]⟩
abbrev S256x768 : Shape := ⟨2, ![256, 768]⟩
abbrev S256x1024 : Shape := ⟨2, ![256, 1024]⟩
abbrev S192 : Shape := ⟨1, ![192]⟩
abbrev S16384x64 : Shape := ⟨2, ![16384, 64]⟩
abbrev S_ : Shape := ⟨0, ![]⟩

class Facts : Prop where
  slices_S16384x128_S16384x64_0_64 : S16384x128.Slices ![0, 64] S16384x64
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x256 .f32) (main_arg1 : FVec F S16384x256 .f32) (main_arg2 : FVec F S16384x128 .f32) (main_arg3 : FVec F S256 .f32) (main_arg4 : FVec F S256 .f32) (main_arg5 : FVec F S256x768 .f32) (main_arg6 : FVec F S256x1024 .f32) (main_arg7 : FVec F S192 .f32) (main_arg8 : FVec F S192 .f32) : IVec S_ 1 :=
  let main_v0 : FVec F S16384x64 .f32 := (extractStridedSlice S16384x64 ![0, 64] · slices_S16384x128_S16384x64_0_64) main_arg2
  let main_cst : FVec F S_ .f32 := constant S_ .f32 0x00000000#32
  let main_v1 : FVec F S16384x64 .f32 := broadcastInDim S16384x64 ![] bcast_S_S16384x64 main_cst
  let main_v2 : IVec S16384x64 1 := cmpf .oeq main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S4x4096x1024 : Shape := ⟨3, ![4, 4096, 1024]⟩
abbrev S4x4096x512 : Shape := ⟨3, ![4, 4096, 512]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S512x256 : Shape := ⟨2, ![512, 256]⟩
abbrev S512x1 : Shape := ⟨2, ![512, 1]⟩
abbrev S512x128 : Shape := ⟨2, ![512, 128]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x1024 : Shape := ⟨3, ![4, 4096, 1024]⟩
abbrev S4x4096x512 : Shape := ⟨3, ![4, 4096, 512]⟩
abbrev S4x4096x4x256 : Shape := ⟨4, ![4, 4096, 4, 256]⟩
abbrev S4x4096x4x128 : Shape := ⟨4, ![4, 4096, 4, 128]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4x4096x4x256, .bf16⟩
  | .hbm, ⟨4, _⟩ => ⟨S4x4096x4x256, .bf16⟩
  | .hbm, ⟨5, _⟩ => ⟨S4x4096x4x128, .bf16⟩
  | .hbm, ⟨6, _⟩ => ⟨S4x4x4096x4096, .f32⟩
  | .hbm, ⟨7, _⟩ => ⟨S_, .f32⟩
  | .hbm, ⟨8, _⟩ => ⟨S4x4x4096x4096, .f32⟩
  | .hbm, ⟨9, _⟩ => ⟨S4x4x4096x4096, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x4096, .f32⟩
  | .hbm, ⟨23, _⟩ => ⟨S4x4x4096x4096, .f32⟩
  | .hbm, ⟨24, _⟩ => ⟨S4x4x4096x4096, .bf16⟩
  | .hbm, ⟨25, _⟩ => ⟨S4x4x128x4096, .f32⟩
  | .hbm, ⟨26, _⟩ => ⟨S4x4096x4x128, .f32⟩
  | .hbm, ⟨27, _⟩ => ⟨S4x4096x4x128, .bf16⟩
  | .hbm, ⟨28, _⟩ => ⟨S4x4096x512, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== KernelMerge.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x512x1024 : Shape := ⟨3, ![1, 512, 1024]⟩
abbrev S3x512x1024 : Shape := ⟨3, ![3, 512, 1024]⟩
abbrev S512x512 : Shape := ⟨2, ![512, 512]⟩
abbrev S512x3072 : Shape := ⟨2, ![512, 3072]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S3x512x1024, .f32⟩
  | .hbm, ⟨13, _⟩ => ⟨S3x512x1024, .bf16⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergeIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S16384x3x1024 : Shape := ⟨3, ![16384, 3, 1024]⟩
abbrev S16384x1x1024 : Shape := ⟨3, ![16384, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x3072, .f32⟩
  | .hbm, ⟨10, _⟩ => ⟨S16384x3x1024, .f32⟩
  | .hbm, ⟨11, _⟩ => ⟨S16384x1x1024, .f32⟩
  | .hbm, ⟨12, _⟩ => ⟨S16384x1024, .f32⟩
  | .hbm, ⟨13, _⟩ => ⟨S16384x512, .f32⟩
  | .hbm, ⟨14, _⟩ => ⟨S16384x1024, .f32⟩
  | .hbm, ⟨15, _⟩ => ⟨S16384x1024, .f32⟩
  | .hbm, ⟨16, _⟩ => ⟨S16384x1x1024, .f32⟩
  | .hbm, ⟨17, _⟩ => ⟨S16384x1024, .f32⟩
  | .hbm, ⟨18, _⟩ => ⟨S16384x512, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KernelInproj.lean ====
abbrev S16384x1024 : Shape := ⟨2, ![16384, 1024]⟩
abbrev S1024 : Shape := ⟨1, ![1024]⟩
abbrev S1024x6752 : Shape := ⟨2, ![1024, 6752]⟩
abbrev S64 : Shape := ⟨1, ![64]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S8 : Shape := ⟨1, ![8]⟩
abbrev S8x1 : Shape := ⟨2, ![8, 1]⟩
abbrev S512x1 : Shape := ⟨2, ![512, 1]⟩
abbrev S512x512 : Shape := ⟨2, ![512, 512]⟩
abbrev S1x1024 : Shape := ⟨2, ![1, 1024]⟩
abbrev S1x1024x6752 : Shape := ⟨3, ![1, 1024, 6752]⟩
abbrev S1x1024x3104 : Shape := ⟨3, ![1, 1024, 3104]⟩
abbrev S1x1024x96 : Shape := ⟨3, ![1, 1024, 96]⟩
abbrev S1x1024x576 : Shape := ⟨3, ![1, 1024, 576]⟩
abbrev S1x1024x64 : Shape := ⟨3, ![1, 1024, 64]⟩
abbrev S1x1024x3072 : Shape := ⟨3, ![1, 1024, 3072]⟩
abbrev S1x1024x6912 : Shape := ⟨3, ![1, 1024, 6912]⟩
abbrev S1024x6912 : Shape := ⟨2, ![1024, 6912]⟩
abbrev S16384x512 : Shape := ⟨2, ![16384, 512]⟩
abbrev S16384x256 : Shape := ⟨2, ![16384, 256]⟩
abbrev S16384x128 : Shape := ⟨2, ![16384, 128]⟩
abbrev S16384x3072 : Shape := ⟨2, ![16384, 3072]⟩
abbrev S512x1024 : Shape := ⟨2, ![512, 1024]⟩
abbrev S512x256 : Shape := ⟨2, ![512, 256]⟩
abbrev S512x128 : Shape := ⟨2, ![512, 128]⟩
abbrev S512x3072 : Shape := ⟨2, ![512, 3072]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩

abbrev nBuf : Space → Nat
  | .hbm => 50
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6752, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S8, .i32⟩
  | .hbm, ⟨17, _⟩ => ⟨S8x1, .i32⟩
  | .hbm, ⟨18, _⟩ => ⟨S8x64, .i32⟩
  | .hbm, ⟨19, _⟩ => ⟨S512, .i32⟩
  | .hbm, ⟨20, _⟩ => ⟨S512x1, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .bf16⟩
  | .hbm, ⟨26, _⟩ => ⟨S1x1024, .f32⟩
  | .hbm, ⟨27, _⟩ => ⟨S1x1024x6752, .f32⟩
  | .hbm, ⟨28, _⟩ => ⟨S1x1024x3104, .f32⟩
  | .hbm, ⟨29, _⟩ => ⟨S_, .f32⟩
  | .hbm, ⟨30, _⟩ => ⟨S1x1024x96, .f32⟩
  | .hbm, ⟨31, _⟩ => ⟨S1x1024x576, .f32⟩
  | .hbm, ⟨32, _⟩ => ⟨S_, .f32⟩
  | .hbm, ⟨33, _⟩ => ⟨S1x1024x64, .f32⟩
  | .hbm, ⟨34, _⟩ => ⟨S1x1024x3072, .f32⟩
  | .hbm, ⟨35, _⟩ => ⟨S1x1024x6912, .f32⟩
  | .hbm, ⟨36, _⟩ => ⟨S1x1024x6912, .bf16⟩
  | .hbm, ⟨37, _⟩ => ⟨S1024x6912, .bf16⟩
  | .hbm, ⟨38, _⟩ => ⟨S16384x512, .bf16⟩
  | .hbm, ⟨39, _⟩ => ⟨S16384x512, .bf16⟩
  | .hbm, ⟨40, _⟩ => ⟨S16384x512, .bf16⟩
  | .hbm, ⟨41, _⟩ => ⟨S16384x256, .f32⟩
  | .hbm, ⟨42, _⟩ => ⟨S16384x256, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S16384x256, .f32⟩
  | .hbm, ⟨47, _⟩ => ⟨S16384x256, .f32⟩
  | .hbm, ⟨48, _⟩ => ⟨S16384x128, .f32⟩
  | .hbm, ⟨49, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6912, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x128, .f32⟩
  | .local _ .vmem, ⟨28, _⟩ => ⟨S512x128, .f32⟩
  | .local _ .vmem, ⟨29, _⟩ => ⟨S512x3072, .bf16⟩
  | .local _ .vmem, ⟨30, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev main_v30_6 : Ref sig .tc := ⟨.hbm, 44, rfl⟩
abbrev main_v30_7 : Ref sig .tc := ⟨.hbm, 45, rfl⟩
abbrev main_v30_8 : Ref sig .tc := ⟨.hbm, 46, rfl⟩
abbrev main_v30_9 : Ref sig .tc := ⟨.hbm, 47, rfl⟩
abbrev main_v30_10 : Ref sig .tc := ⟨.hbm, 48, rfl⟩
abbrev main_v30_11 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceInprojIdeal.lean ====
abbrev S16384x1024 : Shape := ⟨2, ![16384, 1024]⟩
abbrev S1024 : Shape := ⟨1, ![1024]⟩
abbrev S1024x6752 : Shape := ⟨2, ![1024, 6752]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6752 : Shape := ⟨2, ![16384, 6752]⟩
abbrev S16384x512 : Shape := ⟨2, ![16384, 512]⟩
abbrev S16384x256 : Shape := ⟨2, ![16384, 256]⟩
abbrev S16384x16 : Shape := ⟨2, ![16384, 16]⟩
abbrev S16384x64 : Shape := ⟨2, ![16384, 64]⟩
abbrev S16384x3072 : Shape := ⟨2, ![16384, 3072]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x32 : Shape := ⟨2, ![16384, 32]⟩
abbrev S16384x128 : Shape := ⟨2, ![16384, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6752, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x6752, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x512, .f32⟩
  | .hbm, ⟨29, _⟩ => ⟨S16384x16, .f32⟩
  | .hbm, ⟨30, _⟩ => ⟨S16384x16, .f32⟩
  | .hbm, ⟨31, _⟩ => ⟨S16384x256, .f32⟩
  | .hbm, ⟨32, _⟩ => ⟨S16384x256, .f32⟩
  | .hbm, ⟨33, _⟩ => ⟨S16384x64, .f32⟩
  | .hbm, ⟨34, _⟩ => ⟨S16384x3072, .f32⟩
  | .hbm, ⟨35, _⟩ => ⟨S16384x8x64, .f32⟩
  | .hbm, ⟨36, _⟩ => ⟨S16384x8x64, .f32⟩
  | .hbm, ⟨37, _⟩ => ⟨S_, .f32⟩
  | .hbm, ⟨38, _⟩ => ⟨S16384x8, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S16384x8x1, .f32⟩
  | .hbm, ⟨47, _⟩ => ⟨S16384x8x64, .f32⟩
  | .hbm, ⟨48, _⟩ => ⟨S16384x8x64, .f32⟩
  | .hbm, ⟨49, _⟩ => ⟨S1x1x64, .f32⟩
  | .hbm, ⟨50, _⟩ => ⟨S16384x8x64, .f32⟩
  | .hbm, ⟨51, _⟩ => ⟨S16384x8x64, .f32⟩
  | .hbm, ⟨52, _⟩ => ⟨S16384x512, .f32⟩
  | .hbm, ⟨53, _⟩ => ⟨S16384x8x64, .f32⟩
  | .hbm, ⟨54, _⟩ => ⟨S16384x8x64, .f32⟩
  | .hbm, ⟨55, _⟩ => ⟨S_, .f32⟩
  | .hbm, ⟨56, _⟩ => ⟨S16384x8, .f32⟩
  | .hbm, ⟨57, _⟩ => ⟨S16384x8x1, .f32⟩
  | .hbm, ⟨58, _⟩ => ⟨S_, .f32⟩
  | .hbm, ⟨59, _⟩ => ⟨S16384x8x1, .f32⟩
  | .hbm, ⟨60, _⟩ => ⟨S16384x8x1, .f32⟩
  | .hbm, ⟨61, _⟩ => ⟨S_, .f32⟩
  | .hbm, ⟨62, _⟩ => ⟨S16384x8x1, .f32⟩
  | .hbm, ⟨63, _⟩ => ⟨S16384x8x1, .f32⟩
  | .hbm, ⟨64, _⟩ => ⟨S16384x8x1, .f32⟩
  | .hbm, ⟨65, _⟩ => ⟨S16384x8x64, .f32⟩
  | .hbm, ⟨66, _⟩ => ⟨S16384x8x64, .f32⟩
  | .hbm, ⟨67, _⟩ => ⟨S1x1x64, .f32⟩
  | .hbm, ⟨68, _⟩ => ⟨S16384x8x64, .f32⟩
  | .hbm, ⟨69, _⟩ => ⟨S16384x8x64, .f32⟩
  | .hbm, ⟨70, _⟩ => ⟨S16384x512, .f32⟩
  | .hbm, ⟨71, _⟩ => ⟨S16384x32, .f32⟩
  | .hbm, ⟨72, _⟩ => ⟨S_, .i32⟩
  | .hbm, ⟨73, _⟩ => ⟨S_, .f32⟩
  | .hbm, ⟨74, _⟩ => ⟨S16384x128, .f32⟩
  | .hbm, ⟨75, _⟩ => ⟨S_, .i32⟩
  | .hbm, ⟨76, _⟩ => ⟨S_, .f32⟩
  | .hbm, ⟨77, _⟩ => ⟨S16384x128, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S16384x512, .bf16⟩
  | .hbm, ⟨82, _⟩ => ⟨S16384x512, .bf16⟩
  | .hbm, ⟨83, _⟩ => ⟨S16384x512, .bf16⟩
  | .hbm, ⟨84, _⟩ => ⟨S16384x3072, .f32⟩
  | .hbm, ⟨85, _⟩ => ⟨S16384x3072, .f32⟩
  | .hbm, ⟨86, _⟩ => ⟨S_, .f32⟩
  | .hbm, ⟨87, _⟩ => ⟨S16384x3072, .f32⟩
  | .hbm, ⟨88, _⟩ => ⟨S16384x3072, .f32⟩
  | .hbm, ⟨89, _⟩ => ⟨S_, .f32⟩
  | .hbm, ⟨90, _⟩ => ⟨S16384x3072, .f32⟩
  | .hbm, ⟨91, _⟩ => ⟨S16384x3072, .f32⟩
  | .hbm, ⟨92, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c : Ref sig .tc := ⟨.hbm, 72, rfl⟩
abbrev main_call0_v0 : Ref sig .tc := ⟨.hbm, 73, rfl⟩
abbrev main_v58 : Ref sig .tc := ⟨.hbm, 74, rfl⟩
abbrev main_c_8 : Ref sig .tc := ⟨.hbm, 75, rfl⟩
abbrev main_call1_v0 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== KernelPrep.lean ====
abbrev S16384x256 : Shape := ⟨2, ![16384, 256]⟩
abbrev S16384x128 : Shape := ⟨2, ![16384, 128]⟩
abbrev S256 : Shape := ⟨1, ![256]⟩
abbrev S256x768 : Shape := ⟨2, ![256, 768]⟩
abbrev S256x1024 : Shape := ⟨2, ![256, 1024]⟩
abbrev S192 : Shape := ⟨1, ![192]⟩
abbrev S256x4x192 : Shape := ⟨3, ![256, 4, 192]⟩
abbrev S_ : Shape := ⟨0, ![]⟩
abbrev S256x4x256 : Shape := ⟨3, ![256, 4, 256]⟩
abbrev S256x4x2x128 : Shape := ⟨4, ![256, 4, 2, 128]⟩
abbrev S256x2x4x128 : Shape := ⟨4, ![256, 2, 4, 128]⟩
abbrev S1x256 : Shape := ⟨2, ![1, 256]⟩
abbrev S128 : Shape := ⟨1, ![128]⟩
abbrev S1x128 : Shape := ⟨2, ![1, 128]⟩
abbrev S64 : Shape := ⟨1, ![64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S16384x1024 : Shape := ⟨2, ![16384, 1024]⟩
abbrev S16384x512 : Shape := ⟨2, ![16384, 512]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 59
  | .vmem => 25
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x128, .f32⟩
  | .hbm, ⟨3, _⟩ => ⟨S256, .f32⟩
  | .hbm, ⟨4, _⟩ => ⟨S256, .f32⟩
  | .hbm, ⟨5, _⟩ => ⟨S256x768, .f32⟩
  | .hbm, ⟨6, _⟩ => ⟨S256x1024, .f32⟩
  | .hbm, ⟨7, _⟩ => ⟨S192, .f32⟩
  | .hbm, ⟨8, _⟩ => ⟨S192, .f32⟩
  | .hbm, ⟨9, _⟩ => ⟨S256x4x192, .f32⟩
  | .hbm, ⟨10, _⟩ => ⟨S_, .i32⟩
  | .hbm, ⟨11, _⟩ => ⟨S_, .f32⟩
  | .hbm, ⟨12, _⟩ => ⟨S256x4x256, .f32⟩
  | .hbm, ⟨13, _⟩ => ⟨S256x1024, .f32⟩
  | .hbm, ⟨14, _⟩ => ⟨S256x1024, .bf16⟩
  | .hbm, ⟨15, _⟩ => ⟨S256x4x2x128, .f32⟩
  | .hbm, ⟨16, _⟩ => ⟨S256x2x4x128, .f32⟩
  | .hbm, ⟨17, _⟩ => ⟨S256x1024, .f32⟩
  | .hbm, ⟨18, _⟩ => ⟨S256x1024, .bf16⟩
  | .hbm, ⟨19, _⟩ => ⟨S_, .i32⟩
  | .hbm, ⟨20, _⟩ => ⟨S_, .f32⟩
  | .hbm, ⟨21, _⟩ => ⟨S256, .f32⟩
  | .hbm, ⟨22, _⟩ => ⟨S1x256, .f32⟩
  | .hbm, ⟨23, _⟩ => ⟨S128, .f32⟩
  | .hbm, ⟨24, _⟩ => ⟨S1x128, .f32⟩
  | .hbm, ⟨25, _⟩ => ⟨S64, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S4096, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S4096x32, .f32⟩
  | .hbm, ⟨48, _⟩ => ⟨S_, .f32⟩
  | .hbm, ⟨49, _⟩ => ⟨S4096x64, .f32⟩
  | .hbm, ⟨50, _⟩ => ⟨S4096x128, .f32⟩
  | .hbm, ⟨51, _⟩ => ⟨S4096x32, .f32⟩
  | .hbm, ⟨52, _⟩ => ⟨S4096x128, .f32⟩
  | .hbm, ⟨53, _⟩ => ⟨S4096x128, .f32⟩
  | .hbm, ⟨54, _⟩ => ⟨S1x256, .f32⟩
  | .hbm, ⟨55, _⟩ => ⟨S1x256, .f32⟩
  | .hbm, ⟨56, _⟩ => ⟨S16384x1024, .bf16⟩
  | .hbm, ⟨57, _⟩ => ⟨S16384x1024, .bf16⟩
  | .hbm, ⟨58, _⟩ => ⟨S16384x512, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call2_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelPrepIdeal.lean ====
variable {F : FTy → Type} [FloatOps F] [Named F]
def κ : String → Option EReal := fun
  | "inv_head" => some ((1 / 192 : ℝ) : EReal)
  | _ => none
-- ==== ReferencePrepIdeal.lean ====
abbrev S16384x256 : Shape := ⟨2, ![16384, 256]⟩
abbrev S16384x128 : Shape := ⟨2, ![16384, 128]⟩
abbrev S256 : Shape := ⟨1, ![256]⟩
abbrev S256x768 : Shape := ⟨2, ![256, 768]⟩
abbrev S256x1024 : Shape := ⟨2, ![256, 1024]⟩
abbrev S192 : Shape := ⟨1, ![192]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S16384 : Shape := ⟨1, ![16384]⟩
abbrev S16384x1 : Shape := ⟨2, ![16384, 1]⟩
abbrev S1x256 : Shape := ⟨2, ![1, 256]⟩
abbrev S16384x768 : Shape := ⟨2, ![16384, 768]⟩
abbrev S4x4096x4x192 : Shape := ⟨4, ![4, 4096, 4, 192]⟩
abbrev S16384x1024 : Shape := ⟨2, ![16384, 1024]⟩
abbrev S4x4096x4x256 : Shape := ⟨4, ![4, 4096, 4, 256]⟩
abbrev S4x4096x4x128 : Shape := ⟨4, ![4, 4096, 4, 128]⟩
abbrev S16384x64 : Shape := ⟨2, ![16384, 64]⟩
abbrev S4x4096x1x64 : Shape := ⟨4, ![4, 4096, 1, 64]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S1x1x1x192 : Shape := ⟨4, ![1, 1, 1, 192]⟩
abbrev S4x4096x4x32 : Shape := ⟨4, ![4, 4096, 4, 32]⟩
abbrev S1x4096x1x32 : Shape := ⟨4, ![1, 4096, 1, 32]⟩
abbrev S16384x512 : Shape := ⟨2, ![16384, 512]⟩

abbrev nBuf : Space → Nat
  | .hbm => 147
  | .vmem => 0
  | .smem => 0
  | _ => 0

abbrev hbmTy0_0 (i : Nat) : BufTy := match i % 128 with
  | 0 => ⟨S16384x256, .f32⟩
  | 1 => ⟨S16384x256, .f32⟩
  | 2 => ⟨S16384x128, .f32⟩
  | 3 => ⟨S256, .f32⟩
  | 4 => ⟨S256, .f32⟩
  | 5 => ⟨S256x768, .f32⟩
  | 6 => ⟨S256x1024, .f32⟩
  | 7 => ⟨S192, .f32⟩
  | 8 => ⟨S192, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S4096, .f32⟩
  | 18 => ⟨S4096x1, .f32⟩
  | 19 => ⟨S1x32, .f32⟩
  | 20 => ⟨S4096x32, .f32⟩
  | 21 => ⟨S4096x32, .f32⟩
  | 22 => ⟨S4096x32, .f32⟩
  | 23 => ⟨S4096x32, .f32⟩
  | 24 => ⟨S4096x32, .f32⟩
  | 25 => ⟨S16384x256, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384x256, .f32⟩
  | 37 => ⟨S16384x256, .f32⟩
  | 38 => ⟨S1x256, .f32⟩
  | 39 => ⟨S16384x256, .f32⟩
  | 40 => ⟨S16384x256, .f32⟩
  | 41 => ⟨S16384x768, .f32⟩
  | 42 => ⟨S4x4096x4x192, .f32⟩
  | 43 => ⟨S16384x256, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x256, .f32⟩
  | 55 => ⟨S16384x256, .f32⟩
  | 56 => ⟨S1x256, .f32⟩
  | 57 => ⟨S16384x256, .f32⟩
  | 58 => ⟨S16384x256, .f32⟩
  | 59 => ⟨S16384x1024, .f32⟩
  | 60 => ⟨S4x4096x4x256, .f32⟩
  | 61 => ⟨S4x4096x4x128, .f32⟩
  | 62 => ⟨S4x4096x4x128, .f32⟩
  | 63 => ⟨S16384x64, .f32⟩
  | 64 => ⟨S4x4096x1x64, .f32⟩
  | 65 => ⟨S4x4096x4x64, .f32⟩
  | 66 => ⟨S4x4096x4x192, .f32⟩
  | 67 => ⟨S4x4096x4x192, .f32⟩
  | 68 => ⟨S_, .f32⟩
  | 69 => ⟨S4x4096x4, .f32⟩
  | 70 => ⟨S4x4096x4x1, .f32⟩
  | 71 => ⟨S_, .f32⟩
  | 72 => ⟨S4x4096x4x1, .f32⟩
  | 73 => ⟨S4x4096x4x1, .f32⟩
  | 74 => ⟨S_, .f32⟩
  | 75 => ⟨S4x4096x4x1, .f32⟩
  | 76 => ⟨S4x4096x4x1, .f32⟩
  | 77 => ⟨S4x4096x4x1, .f32⟩
  | 78 => ⟨S4x4096x4x192, .f32⟩
  | 79 => ⟨S4x4096x4x192, .f32⟩
  | 80 => ⟨S1x1x1x192, .f32⟩
  | 81 => ⟨S4x4096x4x192, .f32⟩
  | 82 => ⟨S4x4096x4x192, .f32⟩
  | 83 => ⟨S4x4096x4x192, .f32⟩
  | 84 => ⟨S_, .f32⟩
  | 85 => ⟨S4x4096x4, .f32⟩
  | 86 => ⟨S4x4096x4x1, .f32⟩
  | 87 => ⟨S_, .f32⟩
  | 88 => ⟨S4x4096x4x1, .f32⟩
  | 89 => ⟨S4x4096x4x1, .f32⟩
  | 90 => ⟨S_, .f32⟩
  | 91 => ⟨S4x4096x4x1, .f32⟩
  | 92 => ⟨S4x4096x4x1, .f32⟩
  | 93 => ⟨S4x4096x4x1, .f32⟩
  | 94 => ⟨S4x4096x4x192, .f32⟩
  | 95 => ⟨S4x4096x4x192, .f32⟩
  | 96 => ⟨S1x1x1x192, .f32⟩
  | 97 => ⟨S4x4096x4x192, .f32⟩
  | 98 => ⟨S4x4096x4x192, .f32⟩
  | 99 => ⟨S4x4096x4x128, .f32⟩
  | 100 => ⟨S4x4096x4x64, .f32⟩
  | 101 => ⟨S4x4096x4x32, .f32⟩
  | 102 => ⟨S4x4096x4x32, .f32⟩
  | 103 => ⟨S1x4096x1x32, .f32⟩
  | 104 => ⟨S1x4096x1x32, .f32⟩
  | 105 => ⟨S4x4096x4x32, .f32⟩
  | 106 => ⟨S4x4096x4x32, .f32⟩
  | 107 => ⟨S4x4096x4x32, .f32⟩
  | 108 => ⟨S4x4096x4x32, .f32⟩
  | 109 => ⟨S4x4096x4x32, .f32⟩
  | 110 => ⟨S4x4096x4x32, .f32⟩
  | 111 => ⟨S4x4096x4x32, .f32⟩
  | 112 => ⟨S4x4096x4x32, .f32⟩
  | 113 => ⟨S4x4096x4x32, .f32⟩
  | 114 => ⟨S4x4096x4x32, .f32⟩
  | 115 => ⟨S4x4096x4x64, .f32⟩
  | 116 => ⟨S4x4096x4x192, .f32⟩
  | 117 => ⟨S4x4096x4x128, .f32⟩
  | 118 => ⟨S4x4096x4x64, .f32⟩
  | 119 => ⟨S4x4096x4x32, .f32⟩
  | 120 => ⟨S4x4096x4x32, .f32⟩
  | 121 => ⟨S1x4096x1x32, .f32⟩
  | 122 => ⟨S1x4096x1x32, .f32⟩
  | 123 => ⟨S4x4096x4x32, .f32⟩
  | 124 => ⟨S4x4096x4x32, .f32⟩
  | 125 => ⟨S4x4096x4x32, .f32⟩
  | 126 => ⟨S4x4096x4x32, .f32⟩
  | 127 => ⟨S4x4096x4x32, .f32⟩
  | _ => ⟨S16384x256, .f32⟩

abbrev hbmTy0_1 (i : Nat) : BufTy := match i % 128 with
  | 0 => ⟨S4x4096x4x32, .f32⟩
  | 1 => ⟨S4x4096x4x32, .f32⟩
  | 2 => ⟨S4x4096x4x32, .f32⟩
  | 3 => ⟨S4x4096x4x32, .f32⟩
  | 4 => ⟨S4x4096x4x32, .f32⟩
  | 5 => ⟨S4x4096x4x64, .f32⟩
  | 6 => ⟨S4x4096x4x192, .f32⟩
  | 7 => ⟨S_, .i32⟩
  | 8 => ⟨S_, .f32⟩
  | 9 => ⟨S4x4096x4x256, .f32⟩
  | 10 => ⟨S16384x1024, .f32⟩
  | 11 => ⟨S16384x1024, .bf16⟩
  | 12 => ⟨S_, .i32⟩
  | 13 => ⟨S_, .f32⟩
  | 14 => ⟨S4x4096x4x256, .f32⟩
  | 15 => ⟨S16384x1024, .f32⟩
  | 16 => ⟨S16384x1024, .bf16⟩
  | 17 => ⟨S16384x512, .f32⟩
  | 18 => ⟨S16384x512, .bf16⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_c : Ref sig .tc := ⟨.hbm, 135, rfl⟩
abbrev main_call0_v0 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_c_13 : Ref sig .tc := ⟨.hbm, 140, rfl⟩
abbrev main_call1_v0 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩

abbrev nD : Nat := 1
abbrev τ : Topo := Topo.v7x

variable {F : FTy → Type} [FloatOps F]
-- ==== Proof.AttnMath.lean ====
module

public import Idealize.ShloMosaic.PureOps.Ideal

/-! The softmax average, computed one key block at a time.

The scores of a query are real numbers, the values may be any extended reals. A running state holds a shift `m`, the sum
`l` of the weights `exp (score − m)` and the sum `a` of the weighted values over the keys seen so far. Whatever real
shift it ends with, `a / l` is the softmax average. -/

@[expose] public section

noncomputable section

open Idealize.ShloMosaic

namespace Cert.Attn

/-- The pattern of minus infinity. -/
theorem negInf : Ideal.ofBits .f32 0xFF800000#32 = ⊥ := by simp [Ideal.ofBits, Ideal.ieee]

/-- A nonnegative real factor goes into a finite sum of extended reals. -/
theorem mul_sum_of_nonneg {ι : Type} (u : Finset ι) (f : ι → EReal) {c : ℝ} (hc : 0 ≤ c) :
    (c : EReal) * ∑ i ∈ u, f i = ∑ i ∈ u, (c : EReal) * f i := by
  classical
  induction u using Finset.induction_on with
  | empty => simp
  | insert a u ha ih =>
    rw [Finset.sum_insert ha, Finset.sum_insert ha,
      EReal.left_distrib_of_nonneg_of_ne_top (EReal.coe_nonneg.2 hc) (EReal.coe_ne_top c), ih]

/-- The sum of real numbers, as an extended real. -/
theorem coe_sum {ι : Type} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- The larger of two real numbers, as an extended real. -/
theorem coe_max (a b : ℝ) : ((max a b : ℝ) : EReal) = max (a : EReal) b := EReal.coe_strictMono.monotone.map_max

/-- The largest of finitely many real numbers and of `⊥` is `⊥` or real. -/
theorem fold_max_real {ι : Type} (u : Finset ι) (f : ι → ℝ) :
    (u.fold max (⊥ : EReal) (fun i => (f i : EReal)) = ⊥ ∧ u = ∅) ∨ ∃ r : ℝ, u.fold max (⊥ : EReal) (fun i => (f i : EReal)) = r := by
  classical
  induction u using Finset.induction_on with
  | empty => exact .inl ⟨by simp, rfl⟩
  | insert a u ha ih =>
    rw [Finset.fold_insert ha]
    rcases ih with ⟨h, _⟩ | ⟨r, h⟩
    · exact .inr ⟨f a, by rw [h]; simp⟩
    · exact .inr ⟨max (f a) r, by rw [h, coe_max]⟩

/-- The largest of a nonempty family of real numbers is real. -/
theorem max_real {n : ℕ} (f : Fin (n + 1) → ℝ) :
    ∃ r : ℝ, Finset.univ.fold max (⊥ : EReal) (fun i => (f i : EReal)) = r := by
  rcases fold_max_real Finset.univ f with ⟨_, h⟩ | h
  · exact absurd (Finset.mem_univ (0 : Fin (n + 1))) (by rw [h]; simp)
  · exact h

/-- The softmax average of the values `v` of the first `n` keys, with scores `s`. -/
def average (s : ℕ → ℝ) (v : ℕ → EReal) (n : ℕ) : EReal :=
  ∑ j ∈ Finset.range n, ((Real.exp (s j) / ∑ i ∈ Finset.range n, Real.exp (s i) : ℝ) : EReal) * v j

/-- A shift of the scores leaves the softmax weights. -/
theorem weight_shift (s : ℕ → ℝ) (n j : ℕ) (μ : ℝ) :
    Real.exp (s j - μ) * (1 / ∑ i ∈ Finset.range n, Real.exp (s i - μ))
      = Real.exp (s j) / ∑ i ∈ Finset.range n, Real.exp (s i) := by
  simp only [Real.exp_sub, ← Finset.sum_div]
  have h := Real.exp_ne_zero μ
  by_cases h0 : ∑ i ∈ Finset.range n, Real.exp (s i) = 0
  · simp [h0]
  · field_simp

/-- The sum of the weights of at least one key is positive. -/
theorem total_pos (s : ℕ → ℝ) (μ : ℝ) {n : ℕ} (hn : 0 < n) : 0 < ∑ i ∈ Finset.range n, Real.exp (s i - μ) :=
  Finset.sum_pos (fun _ _ => Real.exp_pos _) ⟨0, Finset.mem_range.2 hn⟩

/-- The state after the first `n` keys: nothing seen, or the two sums at some real shift. -/
def Inv (s : ℕ → ℝ) (v : ℕ → EReal) (n : ℕ) (m l a : EReal) : Prop :=
  (n = 0 ∧ m = ⊥ ∧ l = 0 ∧ a = 0) ∨ ∃ μ : ℝ, m = μ
    ∧ l = ((∑ j ∈ Finset.range n, Real.exp (s j - μ) : ℝ) : EReal)
    ∧ a = ∑ j ∈ Finset.range n, (Real.exp (s j - μ) : EReal) * v j

/-- The state's next shift, from the scores of a block. -/
def nextM {k : ℕ} (m : EReal) (x : Fin k → EReal) : EReal := max m (Finset.univ.fold max ⊥ x)

/-- The next sum of weights. -/
def nextL {k : ℕ} (m l : EReal) (x : Fin k → EReal) : EReal :=
  Ideal.exp (m - nextM m x) * l + ∑ j, Ideal.exp (x j - nextM m x)

/-- The next sum of weighted values. -/
def nextA {k : ℕ} (m a : EReal) (x w : Fin k → EReal) : EReal :=
  Ideal.exp (m - nextM m x) * a + ∑ j, Ideal.exp (x j - nextM m x) * w j

/-- A nonempty block takes the state after `n` keys to the state after the block's keys too. -/
theorem Inv.next {s : ℕ → ℝ} {v : ℕ → EReal} {n k : ℕ} {m l a : EReal} (h : Inv s v n m l a)
    (x w : Fin (k + 1) → EReal) (hx : ∀ j, x j = s (n + j)) (hw : ∀ j, w j = v (n + j)) :
    Inv s v (n + (k + 1)) (nextM m x) (nextL m l x) (nextA m a x w) := by
  obtain ⟨r, hr⟩ := max_real fun j : Fin (k + 1) => s (n + j)
  have hfold : Finset.univ.fold max ⊥ x = (r : EReal) := by rw [← hr, funext hx]
  have hblock : ∀ μ : ℝ, ∑ j, Ideal.exp (x j - (μ : EReal))
      = ((∑ j ∈ Finset.range (k + 1), Real.exp (s (n + j) - μ) : ℝ) : EReal) := fun μ => by
    rw [Finset.sum_range, coe_sum]
    exact Finset.sum_congr rfl fun j _ => by rw [hx, ← EReal.coe_sub, Ideal.exp_coe]
  have hvals : ∀ μ : ℝ, ∑ j, Ideal.exp (x j - (μ : EReal)) * w j
      = ∑ j ∈ Finset.range (k + 1), (Real.exp (s (n + j) - μ) : EReal) * v (n + j) := fun μ => by
    rw [Finset.sum_range]
    exact Finset.sum_congr rfl fun j _ => by rw [hx, hw, ← EReal.coe_sub, Ideal.exp_coe]
  rcases h with ⟨rfl, rfl, rfl, rfl⟩ | ⟨μ, rfl, rfl, rfl⟩
  · have hm : nextM ⊥ x = (r : EReal) := by rw [nextM, hfold]; simp
    refine .inr ⟨r, hm, ?_, ?_⟩
    · rw [nextL, hm, hblock, mul_zero, zero_add, Nat.zero_add]; simp
    · rw [nextA, hm, hvals, mul_zero, zero_add, Nat.zero_add]; simp
  · have hm : nextM (μ : EReal) x = ((max μ r : ℝ) : EReal) := by rw [nextM, hfold, coe_max]
    have hα : ∀ j, Real.exp (μ - max μ r) * Real.exp (s j - μ) = Real.exp (s j - max μ r) := fun j => by
      rw [← Real.exp_add]; congr 1; ring
    refine .inr ⟨max μ r, hm, ?_, ?_⟩
    · rw [nextL, hm, hblock, ← EReal.coe_sub, Ideal.exp_coe, ← EReal.coe_mul, ← EReal.coe_add, Finset.sum_range_add _ n (k + 1),
        Finset.mul_sum]
      simp only [hα]
    · rw [nextA, hm, hvals, ← EReal.coe_sub, Ideal.exp_coe, mul_sum_of_nonneg _ _ (Real.exp_pos _).le,
        Finset.sum_range_add _ n (k + 1)]
      simp only [← mul_assoc, ← EReal.coe_mul, hα]

/-- The quotient of the two sums is the softmax average. -/
theorem Inv.quotient {s : ℕ → ℝ} {v : ℕ → EReal} {n : ℕ} {m l a : EReal} (h : Inv s v n m l a) (hn : 0 < n) :
    Ideal.div a l = average s v n := by
  rcases h with ⟨h0, _⟩ | ⟨μ, rfl, rfl, rfl⟩
  · omega
  · have hp := total_pos s μ hn
    rw [Ideal.div_coe hp.ne', mul_comm, mul_sum_of_nonneg _ _ (one_div_pos.2 hp).le, average]
    refine Finset.sum_congr rfl fun j _ => ?_
    rw [← mul_assoc, ← EReal.coe_mul, mul_comm (1 / _), weight_shift]

/-- Softmax first, the average of the values after it. -/
theorem softmax_average {n : ℕ} (s : ℕ → ℝ) (v : ℕ → EReal) (x w : Fin (n + 1) → EReal) (hx : ∀ j, x j = s j)
    (hw : ∀ j, w j = v j) :
    ∑ j, w j * Ideal.div (Ideal.exp (x j - Finset.univ.fold max ⊥ x)) (∑ i, Ideal.exp (x i - Finset.univ.fold max ⊥ x))
      = average s v (n + 1) := by
  obtain ⟨r, hr⟩ := max_real fun j : Fin (n + 1) => s j
  have hfold : Finset.univ.fold max ⊥ x = (r : EReal) := by rw [← hr, funext hx]
  have hp := total_pos s r (Nat.succ_pos n)
  have hsum : ∑ i, Ideal.exp (x i - (r : EReal)) = ((∑ i ∈ Finset.range (n + 1), Real.exp (s i - r) : ℝ) : EReal) := by
    rw [Finset.sum_range, coe_sum]
    exact Finset.sum_congr rfl fun j _ => by rw [hx, ← EReal.coe_sub, Ideal.exp_coe]
  rw [hfold, hsum, average, Finset.sum_range (fun j => (_ : EReal) * v j)]
  refine Finset.sum_congr rfl fun j _ => ?_
  rw [Ideal.div_coe hp.ne', hx, hw, ← EReal.coe_sub, Ideal.exp_coe, ← EReal.coe_mul, weight_shift, mul_comm]

end Cert.Attn

end
-- ==== Proof.AttnKernel.lean ====
module

public import proofs.«01_k».proof.Proof.Gen.KernelIdeal.Value
public import proofs.«01_k».proof.Proof.AttnMath
public import Idealize.ShloMosaic.Lib.Pipeline.ValueKit
public import Idealize.ShloMosaic.Lib.Pointwise

/-! What the attention kernel stores for a block of queries: eight equal steps, one per key block, each the step of
`AttnMath` on every row. -/

@[expose] public section

set_option maxRecDepth 16384

noncomputable section

open Idealize.ShloMosaic Idealize.ShloMosaic.TcCoe Idealize.SL.Sem

namespace Cert.KernelIdeal.Block

open Cert.KernelIdeal Cert.KernelIdeal.Gen Cert.Attn

/-- The shift, the sum of weights and the sums of weighted values of every query of the block. -/
structure State where
  m : FVec Ideal S512x1 .f32
  l : FVec Ideal S512x1 .f32
  a : FVec Ideal S512x128 .f32

/-- Nothing seen. -/
def start : State :=
  ⟨broadcast S512x1 (Scalar.ofBits .f32 0xFF800000#32), broadcast S512x1 (Scalar.ofBits .f32 0x00000000#32),
    broadcast S512x128 (Scalar.ofBits .f32 0x00000000#32)⟩

/-- The scores of the queries against a key block. -/
def score (q k : FVec Ideal S1x512x256 .bf16) : FVec Ideal S512x512 .f32 :=
  mulf (matmul dot_S512x256_S512x256_S512x512_1_1_0_0_n_n none (shapeCast S512x256 q shapeCasts_S1x512x256_S512x256)
    (shapeCast S512x256 k shapeCasts_S1x512x256_S512x256) (constant S512x512 .f32 0x00000000#32))
    (broadcast S512x512 (Scalar.ofBits .f32 0x3D93CD3A#32))

/-- The shift after a key block. -/
def shift (q k : FVec Ideal S1x512x256 .bf16) (m : FVec Ideal S512x1 .f32) : FVec Ideal S512x1 .f32 :=
  maximumf m (shapeCast S512x1 (multiReduction .maximumf [1] S512 (score q k) 0xFF800000#32 reduces_S512x512_S512 (.inl rfl) rfl)
    shapeCasts_S512_S512x1)

/-- The weights of a key block. -/
def weight (q k : FVec Ideal S1x512x256 .bf16) (m : FVec Ideal S512x1 .f32) : FVec Ideal S512x512 .f32 :=
  exp (subf (score q k) (broadcastTo S512x512 (shift q k m) broadcasts_S512x1_S512x512))

/-- The state after a key block. -/
def State.next (q k : FVec Ideal S1x512x256 .bf16) (w : FVec Ideal S1x512x128 .bf16) (s : State) : State :=
  ⟨shift q k s.m,
    addf (mulf (exp (subf s.m (shift q k s.m))) s.l)
      (shapeCast S512x1 (multiReduction .add [1] S512 (weight q k s.m) 0x00000000#32 reduces_S512x512_S512 (.inl rfl) rfl)
        shapeCasts_S512_S512x1),
    addf (mulf (broadcastTo S512x128 (exp (subf s.m (shift q k s.m))) broadcasts_S512x1_S512x128) s.a)
      (matmul dot_S512x512_S512x128_S512x128_1_0_0_1_n_n none (truncf .bf16 (weight q k s.m) bitsLt_bf16_f32)
        (shapeCast S512x128 w shapeCasts_S1x512x128_S512x128) (constant S512x128 .f32 0x00000000#32))⟩

/-- The state after the first `n` key blocks. -/
def after (q : FVec Ideal S1x512x256 .bf16) (k : ℕ → FVec Ideal S1x512x256 .bf16) (w : ℕ → FVec Ideal S1x512x128 .bf16) :
    ℕ → State
  | 0 => start
  | n + 1 => (after q k w n).next q (k n) (w n)

/-- What a state stores. -/
def State.result (s : State) : FVec Ideal S1x512x128 .bf16 :=
  shapeCast S1x512x128 (truncf .bf16 (divf s.a (broadcastTo S512x128 s.l broadcasts_S512x1_S512x128)) bitsLt_bf16_f32)
    shapeCasts_S512x128_S1x512x128

set_option maxHeartbeats 4000000 in
/-- The body stores what the state after eight key blocks stores. -/
theorem stored_eq (q : FVec Ideal S1x512x256 .bf16) (k : ℕ → FVec Ideal S1x512x256 .bf16)
    (w : ℕ → FVec Ideal S1x512x128 .bf16) :
      k0_pay1 (k0_pay41 (k0_pay2 q) (k0_pay34 (k0_pay2 q) (k0_pay29 (k0_pay2 q) (k0_pay17 (k0_pay2 q) (k0_pay5 q (k
      0)) (k0_pay10 (k 1)) (constant S512x512 .f32 0x00000000#32) (k 2)) (k 3) (k 4)) (k 5)) (k0_pay37 (k0_pay2 q)
      (k0_pay29 (k0_pay2 q) (k0_pay17 (k0_pay2 q) (k0_pay5 q (k 0)) (k0_pay10 (k 1)) (constant S512x512 .f32
      0x00000000#32) (k 2)) (k 3) (k 4)) (k0_pay31 (k0_pay2 q) (k0_pay17 (k0_pay2 q) (k0_pay5 q (k 0)) (k0_pay10 (k
      1)) (constant S512x512 .f32 0x00000000#32) (k 2)) (k 3) (k 4)) (k0_pay32 (k0_pay2 q) (k0_pay17 (k0_pay2 q)
      (k0_pay5 q (k 0)) (k0_pay10 (k 1)) (constant S512x512 .f32 0x00000000#32) (k 2)) (k0_pay20 (k0_pay2 q) (k0_pay5
      q (k 0)) (k0_pay8 q (k 0)) (k0_pay10 (k 1)) (constant S512x512 .f32 0x00000000#32) (k 2)) (k 3) (k 4)) (k 5))
      (k0_pay38 (k0_pay2 q) (k0_pay26 (k0_pay2 q) (k0_pay17 (k0_pay2 q) (k0_pay5 q (k 0)) (k0_pay10 (k 1)) (constant
      S512x512 .f32 0x00000000#32) (k 2)) (k0_pay21 (k0_pay2 q) (k0_pay5 q (k 0)) (k0_pay9 q (k 0) (w 0)) (k0_pay10 (k
      1)) (k0_pay11 (w 1)) (constant S512x512 .f32 0x00000000#32) (k 2) (w 2)) (k 3) (w 3)) (k0_pay27 (w 4)) (k0_pay29
      (k0_pay2 q) (k0_pay17 (k0_pay2 q) (k0_pay5 q (k 0)) (k0_pay10 (k 1)) (constant S512x512 .f32 0x00000000#32) (k
      2)) (k 3) (k 4)) (k0_pay30 (k0_pay2 q) (k0_pay17 (k0_pay2 q) (k0_pay5 q (k 0)) (k0_pay10 (k 1)) (constant
      S512x512 .f32 0x00000000#32) (k 2)) (k 3) (k 4)) (k0_pay31 (k0_pay2 q) (k0_pay17 (k0_pay2 q) (k0_pay5 q (k 0))
      (k0_pay10 (k 1)) (constant S512x512 .f32 0x00000000#32) (k 2)) (k 3) (k 4)) (k 5) (w 5)) (k0_pay39 (w 6))
      (k0_pay40 (k0_pay2 q) (k 6)) (k 7) (w 7))
      = (after q k w 8).result := by
  rfl

/-- The shift after a key block, for one query. -/
theorem next_m (q k : FVec Ideal S1x512x256 .bf16) (w : FVec Ideal S1x512x128 .bf16) (s : State) (r : Fin 512) :
    (s.next q k w).m (ix2 r 0) = nextM (s.m (ix2 r 0)) fun j => score q k (ix2 r j) := by
  unfold State.next
  pointwise [shift, nextM, negInf]

/-- The sum of weights after a key block, for one query. -/
theorem next_l (q k : FVec Ideal S1x512x256 .bf16) (w : FVec Ideal S1x512x128 .bf16) (s : State) (r : Fin 512) :
    (s.next q k w).l (ix2 r 0) = nextL (s.m (ix2 r 0)) (s.l (ix2 r 0)) fun j => score q k (ix2 r j) := by
  unfold State.next
  pointwise [weight, shift, nextL, nextM, negInf]

/-- The sum of weighted values after a key block, for one query and one channel. -/
theorem next_a (q k : FVec Ideal S1x512x256 .bf16) (w : FVec Ideal S1x512x128 .bf16) (s : State) (r : Fin 512) (c : Fin 128) :
    (s.next q k w).a (ix2 r c)
      = nextA (s.m (ix2 r 0)) (s.a (ix2 r c)) (fun j => score q k (ix2 r j)) fun j => w (ix3 0 j c) := by
  unfold State.next
  pointwise [weight, shift, nextA, nextM, negInf]

/-- The quotient that a state stores. -/
theorem result_at (s : State) (r : Fin 512) (c : Fin 128) :
    s.result (ix3 0 r c) = Ideal.div (s.a (ix2 r c)) (s.l (ix2 r 0)) := by
  pointwise [State.result]

/-- A score is a scaled product of a query and a key. -/
theorem score_at (q k : FVec Ideal S1x512x256 .bf16) (r j : Fin 512) :
    score q k (ix2 r j) = (∑ d, q (ix3 0 r d) * k (ix3 0 j d)) * Ideal.ofBits .f32 0x3D93CD3A#32 := by
  pointwise [score]

/-- The states of a query with real scores are those of `AttnMath`. -/
theorem after_inv (q : FVec Ideal S1x512x256 .bf16) (k : ℕ → FVec Ideal S1x512x256 .bf16)
    (w : ℕ → FVec Ideal S1x512x128 .bf16) (s : ℕ → ℝ) (v : ℕ → EReal) (r : Fin 512) (c : Fin 128)
    (hs : ∀ n < 8, ∀ j : Fin 512, score q (k n) (ix2 r j) = (s (n * 512 + j) : EReal))
    (hv : ∀ n < 8, ∀ j : Fin 512, w n (ix3 0 j c) = v (n * 512 + j)) (n : ℕ) (hn : n ≤ 8) :
    Inv s v (n * 512) ((after q k w n).m (ix2 r 0)) ((after q k w n).l (ix2 r 0)) ((after q k w n).a (ix2 r c)) := by
  induction n with
  | zero =>
    refine .inl ⟨rfl, ?_, ?_, ?_⟩
    · pointwise [after, start, negInf]
    · pointwise [after, start]
    · pointwise [after, start]
  | succ n ih =>
    rw [after, next_m, next_l, next_a, Nat.succ_mul]
    exact (ih (by omega)).next (k := 511) _ _ (hs n (by omega)) (hv n (by omega))

/-- What the body stores of a query with real scores is its softmax average. -/
theorem stored_average (q : FVec Ideal S1x512x256 .bf16) (k : ℕ → FVec Ideal S1x512x256 .bf16)
    (w : ℕ → FVec Ideal S1x512x128 .bf16) (s : ℕ → ℝ) (v : ℕ → EReal) (r : Fin 512) (c : Fin 128)
    (hs : ∀ n < 8, ∀ j : Fin 512, score q (k n) (ix2 r j) = (s (n * 512 + j) : EReal))
    (hv : ∀ n < 8, ∀ j : Fin 512, w n (ix3 0 j c) = v (n * 512 + j)) :
    (after q k w 8).result (ix3 0 r c) = average s v 4096 :=
  (result_at _ r c).trans ((after_inv q k w s v r c hs hv 8 le_rfl).quotient (by decide))

end Cert.KernelIdeal.Block

end
-- ==== Proof.AttnRef.lean ====
module

public import proofs.«01_k».proof.Proof.Gen.ReferenceIdeal.Run
public import proofs.«01_k».proof.Proof.AttnMath
public import Idealize.ShloMosaic.Lib.Pointwise

/-! The attention's reference is the softmax average of every query. -/

@[expose] public section

set_option maxRecDepth 16384

noncomputable section

open Idealize.ShloMosaic Idealize.ShloMosaic.TcCoe Idealize.SL.Sem

namespace Cert.ReferenceIdeal.Term

open Cert.ReferenceIdeal Cert.ReferenceIdeal.Gen Cert.Attn

/-- The reference's scores. -/
def scores (Q K : FVec Ideal S4x4096x1024 .bf16) : FVec Ideal S4x4x4096x4096 .f32 :=
  mulf (Host.dotGeneral dot_S4x4096x4x256_S4x4096x4x256_S4x4x4096x4096_3_3_1_1_02_02 none (shapeCast _ Q
    shapeCasts_S4x4096x1024_S4x4096x4x256) (shapeCast _ K shapeCasts_S4x4096x1024_S4x4096x4x256)) (broadcastInDim
    S4x4x4096x4096 ![] bcast_S_S4x4x4096x4096 (constant S_ .f32 0x3D93CD3A#32))

/-- The reference's weights before their division. -/
def weights (Q K : FVec Ideal S4x4096x1024 .bf16) : FVec Ideal S4x4x4096x4096 .f32 :=
  Host.exp (subf (scores Q K) (broadcastInDim S4x4x4096x4096 ![0, 1, 2, 3] bcast_S4x4x4096x1_S4x4x4096x4096_0_1_2_3
    (broadcastInDim S4x4x4096x1 ![0, 1, 2] bcast_S4x4x4096_S4x4x4096x1_0_1_2 (maximumf (broadcastInDim S4x4x4096 ![]
    bcast_S_S4x4x4096 (constant S_ .f32 0xFF800000#32)) (Host.reduce FloatOps.maximumf (scores Q K) (constant S_ .f32
    0xFF800000#32) reducesTo_S4x4x4096x4096_S4x4x4096_d3 h_S_)))))

/-- The reference's result. -/
def REF (Q K : FVec Ideal S4x4096x1024 .bf16) (V : FVec Ideal S4x4096x512 .bf16) : FVec Ideal S4x4096x512 .bf16 :=
  shapeCast _ (truncf .bf16 (transpose S4x4096x4x128 [0, 3, 1, 2] (Host.dotGeneral
    dot_S4x4096x4x128_S4x4x4096x4096_S4x4x128x4096_1_3_3_2_02_01 none (shapeCast _ V
    shapeCasts_S4x4096x512_S4x4096x4x128) (truncf .bf16 (Host.divf (weights Q K) (broadcastInDim S4x4x4096x4096 ![0,
    1, 2, 3] bcast_S4x4x4096x1_S4x4x4096x4096_0_1_2_3 (broadcastInDim S4x4x4096x1 ![0, 1, 2]
    bcast_S4x4x4096_S4x4x4096x1_0_1_2 (Host.reduceAdd (weights Q K) (constant S_ .f32 0x00000000#32)
    reducesTo_S4x4x4096x4096_S4x4x4096_d3 h_S_)))) bitsLt_bf16_f32)) transposes_S4x4x128x4096_S4x4096x4x128_0_3_1_2)
    bitsLt_bf16_f32) shapeCasts_S4x4096x4x128_S4x4096x512

/-- The score of query `i` against key `j` in head `h` of batch `b`. -/
def score (Q K : FVec Ideal S4x4096x1024 .bf16) (b h : Fin 4) (i j : Fin 4096) : EReal :=
  (∑ d : Fin 256, Q (ix3 b i ⟨h * 256 + d, by omega⟩) * K (ix3 b j ⟨h * 256 + d, by omega⟩)) * Ideal.ofBits .f32 0x3D93CD3A#32

/-- The reference's scores, entry by entry. -/
theorem scores_at (Q K : FVec Ideal S4x4096x1024 .bf16) (b h : Fin 4) (i j : Fin 4096) :
    scores Q K (ix4 b h i j) = score Q K b h i j := by
  pointwise [scores, score]

/-- The largest entry of a row. -/
theorem rowmax_at (X : FVec Ideal S4x4x4096x4096 .f32) (b h : Fin 4) (i : Fin 4096) :
    Host.reduce FloatOps.maximumf X (constant S_ .f32 0xFF800000#32) reducesTo_S4x4x4096x4096_S4x4x4096_d3 h_S_ (ix3 b h i)
      = Finset.univ.fold max ⊥ fun j => X (ix4 b h i j) := by
  pointwise [negInf]

/-- The exponential of a row's entries less a number of the row. -/
theorem shifted_at (X : FVec Ideal S4x4x4096x4096 .f32) (Y : FVec Ideal S4x4x4096 .f32) (b h : Fin 4) (i j : Fin 4096) :
    Host.exp (subf X (broadcastInDim S4x4x4096x4096 ![0, 1, 2, 3] bcast_S4x4x4096x1_S4x4x4096x4096_0_1_2_3
      (broadcastInDim S4x4x4096x1 ![0, 1, 2] bcast_S4x4x4096_S4x4x4096x1_0_1_2
        (maximumf (broadcastInDim S4x4x4096 ![] bcast_S_S4x4x4096 (constant S_ .f32 0xFF800000#32)) Y)))) (ix4 b h i j)
      = Ideal.exp (X (ix4 b h i j) - max ⊥ (Y (ix3 b h i))) := by
  pointwise [negInf]

/-- The reference's weights before their division, entry by entry. -/
theorem weights_at (Q K : FVec Ideal S4x4096x1024 .bf16) (b h : Fin 4) (i j : Fin 4096) :
    weights Q K (ix4 b h i j) = Ideal.exp (score Q K b h i j - Finset.univ.fold max ⊥ (score Q K b h i)) := by
  rw [weights, shifted_at, rowmax_at, scores_at, max_eq_right bot_le]
  simp only [scores_at]

/-- The reference's result, entry by entry, over its weights. -/
theorem REF_read (Q K : FVec Ideal S4x4096x1024 .bf16) (V : FVec Ideal S4x4096x512 .bf16) (b : Fin 4) (i : Fin 4096) (c : Fin 512) :
    REF Q K V (ix3 b i c) = ∑ j, V (ix3 b j c) *
      Ideal.div (weights Q K (ix4 b ⟨c / 128, by omega⟩ i j)) (∑ j, weights Q K (ix4 b ⟨c / 128, by omega⟩ i j)) := by
  pointwise [REF]

/-- Real-valued arrays. -/
def Real {s : Shape} {φ : FTy} (X : FVec Ideal s φ) : Prop := ∀ i, ∃ r : ℝ, X i = (r : EReal)

/-- A score of real queries and keys is real. -/
theorem score_real {Q K : FVec Ideal S4x4096x1024 .bf16} (hQ : Real Q) (hK : Real K) (b h : Fin 4) (i j : Fin 4096) :
    ∃ r : ℝ, score Q K b h i j = (r : EReal) := by
  choose q hq using hQ
  choose k hk using hK
  obtain ⟨c, hc⟩ : ∃ c : ℝ, Ideal.ofBits .f32 0x3D93CD3A#32 = (c : EReal) := ⟨_, by simp [Ideal.ofBits, Ideal.ieee]; rfl⟩
  refine ⟨(∑ d : Fin 256, q (ix3 b i ⟨h * 256 + d, by omega⟩) * k (ix3 b j ⟨h * 256 + d, by omega⟩)) * c, ?_⟩
  rw [score, hc, EReal.coe_mul, coe_sum]
  simp only [hq, hk, EReal.coe_mul]

/-- The scores of query `i` as real numbers, by the key's number. -/
def realScore (Q K : FVec Ideal S4x4096x1024 .bf16) (b h : Fin 4) (i : Fin 4096) (j : ℕ) : ℝ :=
  if hj : j < 4096 then (score Q K b h i ⟨j, hj⟩).toReal else 0

/-- A channel of the values, by the key's number. -/
def value (V : FVec Ideal S4x4096x512 .bf16) (b : Fin 4) (c : Fin 512) (j : ℕ) : EReal :=
  if hj : j < 4096 then V (ix3 b ⟨j, hj⟩ c) else 0

/-- The real scores are the scores. -/
theorem realScore_eq {Q K : FVec Ideal S4x4096x1024 .bf16} (hQ : Real Q) (hK : Real K) (b h : Fin 4) (i j : Fin 4096) :
    score Q K b h i j = (realScore Q K b h i j : EReal) := by
  obtain ⟨r, hr⟩ := score_real hQ hK b h i j
  rw [realScore, dif_pos j.isLt, hr, EReal.toReal_coe]

/-- The reference's result is the softmax average. -/
theorem REF_at {Q K : FVec Ideal S4x4096x1024 .bf16} (hQ : Real Q) (hK : Real K) (V : FVec Ideal S4x4096x512 .bf16)
    (b : Fin 4) (i : Fin 4096) (c : Fin 512) :
    REF Q K V (ix3 b i c) = average (realScore Q K b ⟨c / 128, by omega⟩ i) (value V b c) 4096 := by
  rw [REF_read]
  simp only [weights_at]
  exact softmax_average (n := 4095) _ _ _ _ (realScore_eq hQ hK b _ i) fun j => by rw [value, dif_pos j.isLt]

end Cert.ReferenceIdeal.Term

end
-- ==== Proof.AttnValue.lean ====
module

public import proofs.«01_k».proof.Proof.AttnKernel
public import proofs.«01_k».proof.Proof.AttnRef
public import Idealize.ShloMosaic.Lib.Claim

/-! The attention kernel's result array is the reference's. -/

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Block Cert.Attn

variable (m : (ℓ : Loc nD τ sig) → Buf (Elt Ideal) ℓ)

/-- Point `t` is the query block `t % 8` of head `t / 8 % 4` of batch `t / 32`. -/
theorem idx : ∀ t : Fin cfg0.N, win0_0.index t = ![t.val / 32, t.val % 8, t.val / 8 % 4]
    ∧ win0_1.index t = ![t.val / 32, 0, t.val / 8 % 4] ∧ win0_2.index t = ![t.val / 32, 0, t.val / 8 % 4]
    ∧ win0_3.index t = ![t.val / 32, t.val % 8, t.val / 8 % 4] ∧ t.val / 32 < 4 :=
  (by decide +kernel : ∀ t : Fin grid0.N, _)

/-- Eight blocks of 512 rows lie inside 4096 rows. -/
theorem inbounds (n w : ℕ) : ∀ a : Fin 3, (![0, n % 8 * 512, 0] : Fin 3 → ℕ) a + (![1, 512, w] : Fin 3 → ℕ) a ≤ (![1, 4096, w] : Fin 3 → ℕ) a := by
  have h := Nat.mod_lt n (show 0 < 8 by decide)
  intro a
  fin_cases a <;> simp <;> omega

/-- Block `n` of the keys of a head. -/
def keys (x : Vec Ideal S1x4096x256 .bf16) (n : ℕ) : Vec Ideal S1x512x256 .bf16 :=
  View.ld x (Rect.unit (s := S1x4096x256) ![0, n % 8 * 512, 0] S1x512x256.size (inbounds n 256))

/-- Block `n` of the values of a head. -/
def vals (x : Vec Ideal S1x4096x128 .bf16) (n : ℕ) : Vec Ideal S1x512x128 .bf16 :=
  View.ld x (Rect.unit (s := S1x4096x128) ![0, n % 8 * 512, 0] S1x512x128.size (inbounds n 128))

/-- The keys of a block. -/
theorem keys_at (x : Vec Ideal S1x4096x256 .bf16) (n : ℕ) (hn : n < 8) (j : Fin 512) (d : Fin 256) :
    keys x n (ix3 0 j d) = x (ix3 0 ⟨n * 512 + j, by omega⟩ d) := by
  pointwise [keys]
  simp only [Nat.mod_eq_of_lt hn]

/-- The values of a block. -/
theorem vals_at (x : Vec Ideal S1x4096x128 .bf16) (n : ℕ) (hn : n < 8) (j : Fin 512) (d : Fin 128) :
    vals x n (ix3 0 j d) = x (ix3 0 ⟨n * 512 + j, by omega⟩ d) := by
  pointwise [vals]
  simp only [Nat.mod_eq_of_lt hn]

/-- The batch of a point. -/
abbrev batch (t : Fin cfg0.N) : Fin 4 := ⟨t.val / 32, (idx t).2.2.2.2⟩

/-- The head of a point. -/
abbrev head (t : Fin cfg0.N) : Fin 4 := ⟨t.val / 8 % 4, Nat.mod_lt _ (by decide)⟩

/-- Row `r` of a point's queries among all the queries. -/
abbrev row (t : Fin cfg0.N) (r : Fin 512) : Fin 4096 := ⟨t.val % 8 * 512 + r, by have := Nat.mod_lt t.val (show 0 < 8 by decide); omega⟩

/-- The queries of a point. -/
theorem query_at (c : Dev nD) (t : Fin cfg0.N) (r : Fin 512) (d : Fin 256) :
    iblk m c 0 t (ix3 0 r d) = m ((c.tc : Thread nD τ).loc main_arg0) (ix3 (batch t) (row t r) ⟨(head t : ℕ) * 256 + d, by omega⟩) := by
  blk_ext [iblk, V, idx t]

/-- The keys of a point. -/
theorem key_at (c : Dev nD) (t : Fin cfg0.N) (j : Fin 4096) (d : Fin 256) :
    iblk m c 1 t (ix3 0 j d) = m ((c.tc : Thread nD τ).loc main_arg1) (ix3 (batch t) j ⟨(head t : ℕ) * 256 + d, by omega⟩) := by
  blk_ext [iblk, V, idx t]

/-- The values of a point. -/
theorem value_at (c : Dev nD) (t : Fin cfg0.N) (j : Fin 4096) (d : Fin 128) :
    iblk m c 2 t (ix3 0 j d) = m ((c.tc : Thread nD τ).loc main_arg2) (ix3 (batch t) j ⟨(head t : ℕ) * 128 + d, by omega⟩) := by
  blk_ext [iblk, V, idx t]

/-- The reference's term over the kernel's arguments. -/
abbrev target (c : Dev nD) : FVec Ideal S4x4096x512 .bf16 :=
  ReferenceIdeal.Term.REF (m ((c.tc : Thread nD τ).loc main_arg0)) (m ((c.tc : Thread nD τ).loc main_arg1))
    (m ((c.tc : Thread nD τ).loc main_arg2))

set_option maxHeartbeats 4000000 in
/-- The result array after the run, for real queries and keys. -/
theorem final (c : Dev nD) (hQ : ReferenceIdeal.Term.Real (φ := .bf16) (s := S4x4096x1024) (m ((c.tc : Thread nD τ).loc main_arg0)))
    (hK : ReferenceIdeal.Term.Real (φ := .bf16) (s := S4x4096x1024) (m ((c.tc : Thread nD τ).loc main_arg1))) :
    (dats m 0 c).arrAt 3 (cfgs 0).N = target m c := by
  refine (dats m 0 c).arrAt_eq_of_covers 3 _ (by decide +kernel) fun t _ y => ?_
  blk_simp
  rw [after0_3]
  unfold_out out0_3
  frame_out
  refine (congrFun (stored_eq (iblk m c 0 t) (keys (iblk m c 1 t)) (vals (iblk m c 2 t))) y).trans ?_
  idx_vars y
  rw [show y0 = 0 from Subsingleton.elim _ _]
  have hout : ((View.whole main_v0).slice (win0_3.rect t)).emb (ix3 0 y1 y2)
      = (ix3 (batch t) (row t y1) ⟨(head t : ℕ) * 128 + y2, by omega⟩ : S4x4096x512.Idx) := by
    blk_ext [idx t]
  rw [hout]
  refine Eq.trans ?_ (ReferenceIdeal.Term.REF_at hQ hK _ _ _ _).symm
  have hhead : (⟨((head t : ℕ) * 128 + y2) / 128, by omega⟩ : Fin 4) = head t := Fin.ext (by show (_ * 128 + _) / 128 = _; omega)
  rw [hhead]
  refine stored_average _ _ _ _ _ _ _ (fun n hn j => ?_) fun n hn j => ?_
  · rw [score_at]
    refine Eq.trans ?_ (ReferenceIdeal.Term.realScore_eq hQ hK (batch t) (head t) (row t y1) ⟨n * 512 + j, by omega⟩)
    simp only [keys_at _ n hn, query_at, key_at, ReferenceIdeal.Term.score]
  · rw [vals_at _ n hn, value_at, ReferenceIdeal.Term.value, dif_pos (by omega)]

end Cert.KernelIdeal.Result

end
-- ==== Proof.AttnFinite.lean ====
module

public import proofs.«01_k».proof.Defs
public import proofs.«01_k».proof.Proof.AttnRef
public import Idealize.ShloMosaic.Lib.ReduceAll
public import Idealize.ShloMosaic.Lib.Pointwise

/-! What the attention's precondition says: the queries and the keys are real numbers. -/

@[expose] public section

set_option maxRecDepth 16384

noncomputable section

open Idealize.ShloMosaic Idealize.ShloMosaic.TcCoe Idealize.SL.Sem

namespace Cert.Pre_finite

/-- The side conditions of the precondition's operations. -/
instance facts : Cert.Pre_finite.Facts where
  bitsLt_bf16_f32 := by decide
  bcast_S_S4x4096x1024 := by decide
  reducesTo_S4x4096x1024_S_d0_1_2 := by decide
  h_S_ := by decide

/-- An extended real whose absolute value is below infinity is real. -/
theorem real_of_lt {x : EReal} (h : max x (-x) < ⊤) : ∃ r : ℝ, x = (r : EReal) := by
  induction x using EReal.rec with
  | bot => simp at h
  | coe r => exact ⟨r, rfl⟩
  | top => simp at h

/-- A decided proposition whose bit is one holds. -/
theorem of_bit (p : Prop) [Decidable p] (h : BitVec.ofBool (decide p) = 1#1) : p := by
  by_contra hn
  rw [decide_eq_false hn] at h
  exact absurd h (by decide)

/-- The pattern of infinity. -/
theorem posInf : Ideal.ofBits .f32 0x7F800000#32 = ⊤ := by simp [Ideal.ofBits, Ideal.ieee]

/-- The test of one array is 1 only for an array of real numbers. -/
theorem real_of_test (X : FVec Ideal S4x4096x1024 .bf16)
    (h : Host.reduce IntOp.andi (cmpf .olt (Host.absf (extf .f32 X Facts.bitsLt_bf16_f32))
        (broadcastInDim S4x4096x1024 ![] Facts.bcast_S_S4x4096x1024 (constant S_ .f32 0x7F800000#32)))
      (constantI S_ 1 1#1) Facts.reducesTo_S4x4096x1024_S_d0_1_2 Facts.h_S_ (fun a => a.elim0) = 1#1) :
    ReferenceIdeal.Term.Real X := fun i => by
  have : Subsingleton S_.Idx := ⟨fun a b => funext fun k => k.elim0⟩
  have hi := Host.reduce_andi_all _ _ _ _ _ h i
  refine real_of_lt ?_
  pointwise [posInf] at hi
  exact of_bit _ hi

/-- Under the precondition the queries and the keys are real. -/
theorem real_inputs (Q K : FVec Ideal S4x4096x1024 .bf16) (V : FVec Ideal S4x4096x512 .bf16)
    (h : fn (F := Ideal) Q K V = fun _ => 1#1) : ReferenceIdeal.Term.Real Q ∧ ReferenceIdeal.Term.Real K := by
  have h0 := congrFun h (fun a => a.elim0)
  obtain ⟨hq, hk⟩ := IntOp.andi_eq_one.1 h0
  exact ⟨real_of_test Q hq, real_of_test K hk⟩

end Cert.Pre_finite

end
-- ==== Proof.FfnValue.lean ====
module

public import proofs.«01_k».proof.Proof.Gen.KernelFfnIdeal.Value
public import proofs.«01_k».proof.Proof.Gen.ReferenceFfnIdeal.Run
public import Idealize.ShloMosaic.Lib.Pipeline.ValueKit
public import Idealize.ShloMosaic.Lib.Pointwise
public import Idealize.ShloMosaic.Lib.Claim

/-! The feed-forward half-step: what the kernel stores is the reference's term.

The kernel takes the hidden units in two halves and adds the two partial products, the reference sums over all of them
at once. -/

@[expose] public section

set_option maxRecDepth 16384

noncomputable section

open Idealize.ShloMosaic Idealize.ShloMosaic.TcCoe Idealize.SL.Sem

namespace Cert.ReferenceFfnIdeal.Term

open Cert.ReferenceFfnIdeal Cert.ReferenceFfnIdeal.Gen

/-- The rows of `X`, each divided by its root mean square and scaled by `G`. -/
def normed (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0]
    bcast_S16384_S16384x1_0 (Host.reduceAdd (mulf X X) (constant S_ .f32 0x00000000#32) reducesTo_S16384x1024_S16384_d1 h_S_)) (broadcastInDim
    S16384x1 ![] bcast_S_S16384x1 (constant S_ .f32 0x44800000#32))) (broadcastInDim S16384x1 ![] bcast_S_S16384x1 (constant S_ .f32
    0x358637BD#32)))))) (broadcastInDim S16384x1024 ![0, 1] bcast_S1x1024_S16384x1024_0_1 (broadcastInDim S1x1024 ![1] bcast_S1024_S1x1024_1 G))

/-- The reference's result. -/
def REF (X : FVec Ideal S16384x1024 .f32) (G : FVec Ideal S1024 .f32) (W1 W3 : FVec Ideal S1024x2816 .f32)
    (W2 : FVec Ideal S2816x1024 .f32) : FVec Ideal S16384x1024 .f32 :=
  addf X (mulf (broadcastInDim S16384x1024 ![] bcast_S_S16384x1024 (constant S_ .f32 0x3F000000#32)) (Host.dotGeneral
    dot_S16384x2816_S2816x1024_S16384x1024_1_0_0_1_n_n none (mulf (mulf (Host.dotGeneral dot_S16384x1024_S1024x2816_S16384x2816_1_0_0_1_n_n none
    (normed X G) W1) (Host.divf (broadcastInDim S16384x2816 ![] bcast_S_S16384x2816 (constant S_ .f32 0x3F800000#32)) (addf (broadcastInDim
    S16384x2816 ![] bcast_S_S16384x2816 (constant S_ .f32 0x3F800000#32)) (Host.exp (Host.negf (Host.dotGeneral
    dot_S16384x1024_S1024x2816_S16384x2816_1_0_0_1_n_n none (normed X G) W1)))))) (Host.dotGeneral dot_S16384x1024_S1024x2816_S16384x2816_1_0_0_1_n_n
    none (normed X G) W3)) W2))

end Cert.ReferenceFfnIdeal.Term

namespace Cert.KernelFfnIdeal.Result

open Cert.KernelFfnIdeal Cert.KernelFfnIdeal.Gen Cert.ReferenceFfnIdeal.Term

variable (m : (ℓ : Loc nD τ sig) → Buf (Elt Ideal) ℓ)

/-- The reference's term over the kernel's arguments. -/
abbrev target (c : Dev nD) : FVec Ideal S16384x1024 .f32 :=
  REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Point `t` reads and writes row block `t`; the weights are whole at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

set_option maxHeartbeats 4000000 in
/-- The result array after the run. -/
theorem final (c : Dev nD) : (dats m 0 c).arrAt 5 (cfgs 0).N = target m c := by
  refine (dats m 0 c).arrAt_eq_of_covers 5 _ (by decide +kernel) fun t _ y => ?_
  blk_simp
  rw [after0_5]
  frame_out
  pointwise [k0_pay1, k0_pay2, k0_pay3, k0_pay4, k0_pay5, target, REF, normed]
  simp only [Ideal.logistic]
  refine Eq.trans ?_ (Ideal.add_congr rfl (Ideal.mul_congr rfl (Fin.sum_univ_two_halves 1408 1408 rfl _).symm))
  beta_reduce
  blk_point [iblk, V, idx t]

end Cert.KernelFfnIdeal.Result

end
-- ==== Proof.MergeValue.lean ====
module

public import proofs.«01_k».proof.Proof.Gen.KernelMergeIdeal.Value
public import proofs.«01_k».proof.Proof.Gen.ReferenceMergeIdeal.Run
public import Idealize.ShloMosaic.Lib.Pipeline.ValueKit
public import Idealize.ShloMosaic.Lib.Pointwise
public import Idealize.ShloMosaic.Lib.Claim
public import Idealize.ShloMosaic.Lib.StableHlo.ReadAt

/-! The merge of the three branches: what the kernel stores is the reference's term.

The kernel reads each branch's projection out of one stack of three and its gate out of a range of columns; the reference
has the three projections apart and the gates as an array of three rows a token. -/

@[expose] public section

set_option maxRecDepth 16384

noncomputable section

open Idealize.ShloMosaic Idealize.ShloMosaic.TcCoe Idealize.SL.Sem

namespace Cert.ReferenceMergeIdeal.Term

open Cert.ReferenceMergeIdeal Cert.ReferenceMergeIdeal.Gen

/-- The reference's result. -/
def REF (X : FVec Ideal S16384x1024 .f32) (Y1 Y2 Y3 : FVec Ideal S16384x512 .bf16) (G : FVec Ideal S16384x3072 .bf16)
    (W1 W2 W3 : FVec Ideal S512x1024 .f32) (WO : FVec Ideal S1024x1024 .f32) : FVec Ideal S16384x1024 .f32 :=
  addf X (Host.dotGeneral dot_S16384x1024_S1024x1024_S16384x1024_1_0_0_1_n_n none (addf (addf (mulf (shapeCast _ (extractStridedSlice S16384x1x1024
    ![0, 0, 0] (shapeCast _ (extf .f32 G bitsLt_bf16_f32) shapeCasts_S16384x3072_S16384x3x1024) slices_S16384x3x1024_S16384x1x1024_0_0_0)
    shapeCasts_S16384x1x1024_S16384x1024) (Host.dotGeneral dot_S16384x512_S512x1024_S16384x1024_1_0_0_1_n_n none (extf .f32 Y1 bitsLt_bf16_f32) W1))
    (mulf (shapeCast _ (extractStridedSlice S16384x1x1024 ![0, 1, 0] (shapeCast _ (extf .f32 G bitsLt_bf16_f32) shapeCasts_S16384x3072_S16384x3x1024)
    slices_S16384x3x1024_S16384x1x1024_0_1_0) shapeCasts_S16384x1x1024_S16384x1024) (Host.dotGeneral dot_S16384x512_S512x1024_S16384x1024_1_0_0_1_n_n
    none (extf .f32 Y2 bitsLt_bf16_f32) W2))) (mulf (shapeCast _ (extractStridedSlice S16384x1x1024 ![0, 2, 0] (shapeCast _ (extf .f32 G
    bitsLt_bf16_f32) shapeCasts_S16384x3072_S16384x3x1024) slices_S16384x3x1024_S16384x1x1024_0_2_0) shapeCasts_S16384x1x1024_S16384x1024)
    (Host.dotGeneral dot_S16384x512_S512x1024_S16384x1024_1_0_0_1_n_n none (extf .f32 Y3 bitsLt_bf16_f32) W3))) WO)

end Cert.ReferenceMergeIdeal.Term

namespace Cert.KernelMergeIdeal.Result

open Cert.KernelMergeIdeal Cert.KernelMergeIdeal.Gen Cert.ReferenceMergeIdeal.Term

variable (m : (ℓ : Loc nD τ sig) → Buf (Elt Ideal) ℓ)

/-- The reference's term over the kernel's arguments. -/
abbrev target (c : Dev nD) : FVec Ideal S16384x1024 .f32 :=
  REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- Point `t` reads and writes row block `t`; the weights are whole at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![t.val, 0] :=
  (by decide +kernel : ∀ t : Fin grid0.N, _)

/-- The stack's first slice is the first branch's projection. -/
theorem stack_0 (c : Dev nD) (t : Fin cfg0.N) (a : Fin 512) (b : Fin 1024) :
    iblk m c 5 t (ix3 0 a b) = m ((c.tc : Thread nD τ).loc main_arg5) (ix2 a b) := by
  have e : iblk m c 5 t (ix3 0 a b) = V m c main_v4 (ix3 0 a b) := by blk_point [iblk, idx t]
  rw [e]
  unfold V
  after_reads_at
  after_reads_at

/-- The stack's second slice is the second branch's projection. -/
theorem stack_1 (c : Dev nD) (t : Fin cfg0.N) (a : Fin 512) (b : Fin 1024) :
    iblk m c 5 t (ix3 1 a b) = m ((c.tc : Thread nD τ).loc main_arg6) (ix2 a b) := by
  have e : iblk m c 5 t (ix3 1 a b) = V m c main_v4 (ix3 1 a b) := by blk_point [iblk, idx t]
  rw [e]
  unfold V
  after_reads_at
  after_reads_at

/-- The stack's third slice is the third branch's projection. -/
theorem stack_2 (c : Dev nD) (t : Fin cfg0.N) (a : Fin 512) (b : Fin 1024) :
    iblk m c 5 t (ix3 2 a b) = m ((c.tc : Thread nD τ).loc main_arg7) (ix2 a b) := by
  have e : iblk m c 5 t (ix3 2 a b) = V m c main_v4 (ix3 2 a b) := by blk_point [iblk, idx t]
  rw [e]
  unfold V
  after_reads_at
  after_reads_at

/-- The output projection is read as it is. -/
theorem out_proj (c : Dev nD) (t : Fin cfg0.N) (a b : Fin 1024) :
    iblk m c 6 t (ix2 a b) = m ((c.tc : Thread nD τ).loc main_arg8) (ix2 a b) := by
  have e : iblk m c 6 t (ix2 a b) = V m c main_v5 (ix2 a b) := by blk_point [iblk, idx t]
  rw [e]
  unfold V
  after_reads_at

set_option maxHeartbeats 4000000 in
/-- The result array after the run. -/
theorem final (c : Dev nD) : (dats m 0 c).arrAt 7 (cfgs 0).N = target m c := by
  refine (dats m 0 c).arrAt_eq_of_covers 7 _ (by decide +kernel) fun t _ y => ?_
  blk_simp
  rw [after0_7]
  frame_out
  pointwise [k0_pay1, target, REF]
  simp only [stack_0, stack_1, stack_2, out_proj]
  blk_point [iblk, V_main_arg0, V_main_arg1, V_main_arg2, V_main_arg3, V_main_arg4, idx t]

end Cert.KernelMergeIdeal.Result

end
-- ==== Proof.InprojRef.lean ====
module

public import proofs.«01_k».proof.Proof.Gen.ReferenceInprojIdeal.Run
public import Idealize.ShloMosaic.Lib.Pointwise
public import Idealize.ShloMosaic.Lib.Claim

/-! The reference's input projection: its composed terms, part by part. -/

@[expose] public section

set_option maxRecDepth 16384

noncomputable section

open Idealize.ShloMosaic Idealize.ShloMosaic.TcCoe Idealize.SL.Sem

namespace Cert.ReferenceInprojIdeal.Term

open Cert.ReferenceInprojIdeal Cert.ReferenceInprojIdeal.Gen

/-- The rows of `X`, each divided by its root mean square and scaled by `G`. -/
def normed (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0]
    bcast_S16384_S16384x1_0 (Host.reduceAdd (mulf X X) (constant S_ .f32 0x00000000#32) reducesTo_S16384x1024_S16384_d1 h_S_)) (broadcastInDim
    S16384x1 ![] bcast_S_S16384x1 (constant S_ .f32 0x44800000#32))) (broadcastInDim S16384x1 ![] bcast_S_S16384x1 (constant S_ .f32
    0x358637BD#32)))))) (broadcastInDim S16384x1024 ![0, 1] bcast_S1x1024_S16384x1024_0_1 (broadcastInDim S1x1024 ![1] bcast_S1024_S1x1024_1 G))

/-- All columns of the projection. -/
def proj (X : FVec Ideal S16384x1024 .f32) (G : FVec Ideal S1024 .f32) (W : FVec Ideal S1024x6752 .f32) : FVec Ideal S16384x6752 .f32 :=
  Host.dotGeneral dot_S16384x1024_S1024x6752_S16384x6752_1_0_0_1_n_n none (normed X G) W

/-- Eight heads of 64 lanes, each divided by its root mean square and scaled by `N`. -/
def headNorm (Y : FVec Ideal S16384x512 .f32) (N : FVec Ideal S64 .f32) : FVec Ideal S16384x512 .f32 :=
  shapeCast _ (mulf (mulf (shapeCast _ Y shapeCasts_S16384x512_S16384x8x64) (broadcastInDim S16384x8x64 ![0, 1, 2] bcast_S16384x8x1_S16384x8x64_0_1_2
    (Host.rsqrt (addf (Host.divf (broadcastInDim S16384x8x1 ![0, 1] bcast_S16384x8_S16384x8x1_0_1 (Host.reduceAdd (mulf (shapeCast _ Y
    shapeCasts_S16384x512_S16384x8x64) (shapeCast _ Y shapeCasts_S16384x512_S16384x8x64)) (constant S_ .f32 0x00000000#32)
    reducesTo_S16384x8x64_S16384x8_d2 h_S_)) (broadcastInDim S16384x8x1 ![] bcast_S_S16384x8x1 (constant S_ .f32 0x42800000#32))) (broadcastInDim
    S16384x8x1 ![] bcast_S_S16384x8x1 (constant S_ .f32 0x358637BD#32)))))) (broadcastInDim S16384x8x64 ![0, 1, 2] bcast_S1x1x64_S16384x8x64_0_1_2
    (broadcastInDim S1x1x64 ![2] bcast_S64_S1x1x64_2 N))) shapeCasts_S16384x8x64_S16384x512

/-- The queries of the neighbourhood attention, scaled. -/
def naQ (Z : FVec Ideal S16384x6752 .f32) (N : FVec Ideal S64 .f32) : FVec Ideal S16384x512 .bf16 :=
  truncf .bf16 (mulf (headNorm (extractStridedSlice S16384x512 ![0, 0] Z slices_S16384x6752_S16384x512_0_0) N) (broadcastInDim S16384x512 ![]
    bcast_S_S16384x512 (constant S_ .f32 0x3E000000#32))) bitsLt_bf16_f32

/-- The keys of the neighbourhood attention. -/
def naK (Z : FVec Ideal S16384x6752 .f32) (N : FVec Ideal S64 .f32) : FVec Ideal S16384x512 .bf16 :=
  truncf .bf16 (headNorm (extractStridedSlice S16384x512 ![0, 512] Z slices_S16384x6752_S16384x512_0_512) N) bitsLt_bf16_f32

/-- The values of the neighbourhood attention. -/
def naV (Z : FVec Ideal S16384x6752 .f32) : FVec Ideal S16384x512 .bf16 :=
  truncf .bf16 (extractStridedSlice S16384x512 ![0, 1024] Z slices_S16384x6752_S16384x512_0_1024) bitsLt_bf16_f32

/-- The queries of the linear attention. -/
def glaQ (Z : FVec Ideal S16384x6752 .f32) : FVec Ideal S16384x256 .f32 :=
  extractStridedSlice S16384x256 ![0, 1536] Z slices_S16384x6752_S16384x256_0_1536

/-- The keys of the linear attention. -/
def glaK (Z : FVec Ideal S16384x6752 .f32) : FVec Ideal S16384x256 .f32 :=
  extractStridedSlice S16384x256 ![0, 1792] Z slices_S16384x6752_S16384x256_0_1792

/-- The values of the linear attention. -/
def glaV (Z : FVec Ideal S16384x6752 .f32) : FVec Ideal S16384x512 .f32 :=
  extractStridedSlice S16384x512 ![0, 2048] Z slices_S16384x6752_S16384x512_0_2048

/-- The output gates of the linear attention. -/
def glaR (Z : FVec Ideal S16384x6752 .f32) : FVec Ideal S16384x512 .f32 :=
  extractStridedSlice S16384x512 ![0, 2560] Z slices_S16384x6752_S16384x512_0_2560

/-- The low-rank decays of the linear attention, forward and backward, then empty lanes. -/
def glaLow (Z : FVec Ideal S16384x6752 .f32) : FVec Ideal S16384x128 .f32 :=
  pad S16384x128 ![0, 0] ![0, 96] ![0, 0] (concatenate S16384x32 1 [⟨S16384x16, (extractStridedSlice S16384x16 ![0, 3072] Z
    slices_S16384x6752_S16384x16_0_3072)⟩, ⟨S16384x16, (extractStridedSlice S16384x16 ![0, 3088] Z slices_S16384x6752_S16384x16_0_3088)⟩]
    concatenates_S16384x16_S16384x16_S16384x32_d1) (sitofp .f32 (constantI S_ 32 0#32)) pads_S16384x32_S16384x128_000_0960 h_S_

/-- The compressed queries of the latent attention. -/
def latQ (Z : FVec Ideal S16384x6752 .f32) : FVec Ideal S16384x256 .f32 :=
  extractStridedSlice S16384x256 ![0, 3104] Z slices_S16384x6752_S16384x256_0_3104

/-- The compressed keys and values of the latent attention. -/
def latKV (Z : FVec Ideal S16384x6752 .f32) : FVec Ideal S16384x256 .f32 :=
  extractStridedSlice S16384x256 ![0, 3360] Z slices_S16384x6752_S16384x256_0_3360

/-- The rotary key of the latent attention, then empty lanes. -/
def latR (Z : FVec Ideal S16384x6752 .f32) : FVec Ideal S16384x128 .f32 :=
  pad S16384x128 ![0, 0] ![0, 64] ![0, 0] (extractStridedSlice S16384x64 ![0, 3616] Z slices_S16384x6752_S16384x64_0_3616) (sitofp .f32 (constantI S_
    32 0#32)) pads_S16384x64_S16384x128_000_0640 h_S_

/-- The gates of the merge. -/
def gates (Z : FVec Ideal S16384x6752 .f32) : FVec Ideal S16384x3072 .bf16 :=
  truncf .bf16 (Host.divf (broadcastInDim S16384x3072 ![] bcast_S_S16384x3072 (constant S_ .f32 0x3F800000#32)) (addf (broadcastInDim S16384x3072 ![]
    bcast_S_S16384x3072 (constant S_ .f32 0x3F800000#32)) (Host.exp (Host.negf (extractStridedSlice S16384x3072 ![0, 3680] Z
    slices_S16384x6752_S16384x3072_0_3680))))) bitsLt_bf16_f32

end Cert.ReferenceInprojIdeal.Term

end
-- ==== Proof.InprojKernel.lean ====
module

public import proofs.«01_k».proof.Proof.Gen.KernelInprojIdeal.Value
public import proofs.«01_k».proof.Proof.InprojRef
public import Idealize.ShloMosaic.Lib.Pipeline.ValueKit
public import Idealize.ShloMosaic.Lib.Pointwise
public import Idealize.ShloMosaic.Lib.Claim
public import Idealize.ShloMosaic.Lib.StableHlo.ReadAt

/-! The kernel's blocks of the input projection, entry by entry: the normalised rows, and the packed weight columns.

The kernel packs the weights with empty columns between the groups, so that each group starts at a multiple of 128. -/

@[expose] public section

set_option maxRecDepth 16384

noncomputable section

open Idealize.ShloMosaic Idealize.ShloMosaic.TcCoe Idealize.SL.Sem

namespace Cert.KernelInprojIdeal.Result

open Cert.KernelInprojIdeal Cert.KernelInprojIdeal.Gen Cert.ReferenceInprojIdeal.Term

variable (m : (ℓ : Loc nD τ sig) → Buf (Elt Ideal) ℓ)

/-- The rows that come in. -/
abbrev X (c : Dev nD) : FVec Ideal S16384x1024 .f32 := m ((c.tc : Thread nD τ).loc main_arg0)

/-- The gains of the rows' norm. -/
abbrev G (c : Dev nD) : FVec Ideal S1024 .f32 := m ((c.tc : Thread nD τ).loc main_arg1)

/-- The weights, as they come in. -/
abbrev W (c : Dev nD) : FVec Ideal S1024x6752 .f32 := m ((c.tc : Thread nD τ).loc main_arg2)

/-- The reference's projection over the kernel's arguments. -/
abbrev Z (c : Dev nD) : FVec Ideal Cert.ReferenceInprojIdeal.S16384x6752 .f32 := proj (X m c) (G m c) (W m c)

/-- Point `t` reads and writes row block `t`; the gains and weights are whole at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

/-- Row `a` of block `t` among all rows. -/
def row (t : Fin cfg0.N) (a : Fin 512) : Fin 16384 :=
  ⟨512 * t.val + a.val, by
    have h : t.val < 32 := t.isLt.trans_eq (by decide +kernel)
    omega⟩

/-- The gains' row. -/
theorem gain_at (c : Dev nD) (t : Fin cfg0.N) (z : Fin 1) (k : Fin 1024) :
    iblk m c 1 t (ix2 z k) = G m c (ix1 k) := by
  have e : iblk m c 1 t (ix2 z k) = V m c main_v20 (ix2 z k) := by blk_point [iblk, idx t]
  rw [e]
  unfold V
  after_reads_at

/-- The rows' block. -/
theorem rows_at (c : Dev nD) (t : Fin cfg0.N) (a : Fin 512) (k : Fin 1024) :
    iblk m c 0 t (ix2 a k) = X m c (ix2 (row t a) k) := by
  blk_point [iblk, V_main_arg0, idx t, row]

/-- The normalised block. -/
theorem normed_at (c : Dev nD) (t : Fin cfg0.N) (a : Fin 512) (k : Fin 1024) :
    k0_pay5 (iblk m c 0 t) (iblk m c 1 t) (ix2 a k) = normed (X m c) (G m c) (ix2 (row t a) k) := by
  pointwise [k0_pay5, normed]
  simp only [rows_at, gain_at]

/-- The packed weights' columns before the first gap. -/
theorem packed_first (c : Dev nD) (t : Fin cfg0.N) (k : Fin 1024) (j : Fin 6912) (h : j.val < 3104) :
    iblk m c 2 t (ix2 k j) = W m c (ix2 k ⟨j.val, by omega⟩) := by
  have e : iblk m c 2 t (ix2 k j) = V m c main_v29 (ix2 k j) := by blk_point [iblk, idx t]
  rw [e]
  unfold V
  after_reads_at
  rw [dif_pos h]
  after_reads_at

/-- The first gap is zero. -/
theorem packed_gap (c : Dev nD) (t : Fin cfg0.N) (k : Fin 1024) (j : Fin 6912) (h : 3104 ≤ j.val) (h' : j.val < 3200) :
    iblk m c 2 t (ix2 k j) = (0 : EReal) := by
  have e : iblk m c 2 t (ix2 k j) = V m c main_v29 (ix2 k j) := by blk_point [iblk, idx t]
  rw [e]
  unfold V
  after_reads_at
  rw [dif_neg (by omega), dif_pos (by omega)]
  after_reads_at

/-- The columns between the gaps. -/
theorem packed_second (c : Dev nD) (t : Fin cfg0.N) (k : Fin 1024) (j : Fin 6912) (h : 3200 ≤ j.val) (h' : j.val < 3776) :
    iblk m c 2 t (ix2 k j) = W m c (ix2 k ⟨j.val - 96, by omega⟩) := by
  have e : iblk m c 2 t (ix2 k j) = V m c main_v29 (ix2 k j) := by blk_point [iblk, idx t]
  rw [e]
  unfold V
  after_reads_at
  rw [dif_neg (by omega), dif_neg (by omega), dif_pos (by omega)]
  after_reads_at
  exact congrArg (fun q : Fin 6752 => W m c (ix2 k q)) (Fin.ext (by dsimp only; omega))

/-- The second gap is zero. -/
theorem packed_gap' (c : Dev nD) (t : Fin cfg0.N) (k : Fin 1024) (j : Fin 6912) (h : 3776 ≤ j.val) (h' : j.val < 3840) :
    iblk m c 2 t (ix2 k j) = (0 : EReal) := by
  have e : iblk m c 2 t (ix2 k j) = V m c main_v29 (ix2 k j) := by blk_point [iblk, idx t]
  rw [e]
  unfold V
  after_reads_at
  rw [dif_neg (by omega), dif_neg (by omega), dif_neg (by omega), dif_pos (by omega)]
  after_reads_at

/-- The columns after the second gap. -/
theorem packed_third (c : Dev nD) (t : Fin cfg0.N) (k : Fin 1024) (j : Fin 6912) (h : 3840 ≤ j.val) :
    iblk m c 2 t (ix2 k j) = W m c (ix2 k ⟨j.val - 160, by omega⟩) := by
  have e : iblk m c 2 t (ix2 k j) = V m c main_v29 (ix2 k j) := by blk_point [iblk, idx t]
  rw [e]
  unfold V
  after_reads_at
  rw [dif_neg (by omega), dif_neg (by omega), dif_neg (by omega), dif_neg (by omega)]
  after_reads_at
  exact congrArg (fun q : Fin 6752 => W m c (ix2 k q)) (Fin.ext (by dsimp only; omega))

/-- An entry of the projection. -/
theorem Z_at (c : Dev nD) (r : Fin 16384) (j : Fin 6752) :
    Z m c (ix2 r j) = ∑ k : Fin 1024, normed (X m c) (G m c) (ix2 r k) * W m c (ix2 k j) := by
  pointwise [proj]

/-- The normalised block times a packed column. -/
def col (c : Dev nD) (t : Fin cfg0.N) (a : Fin 512) (j : Fin 6912) : EReal :=
  ∑ k : Fin 1024, k0_pay5 (iblk m c 0 t) (iblk m c 1 t) (ix2 a k) * iblk m c 2 t (ix2 k j)

/-- A column before the first gap, at the row and column it has in the projection. -/
theorem col_first (c : Dev nD) (t : Fin cfg0.N) (a : Fin 512) (j : Fin 6912) (r : Fin 16384) (q : Fin 6752)
    (hr : r.val = 512 * t.val + a.val) (hq : q.val = j.val) (h : j.val < 3104) : col m c t a j = Z m c (ix2 r q) := by
  obtain rfl : r = row t a := Fin.ext hr
  have e : q = ⟨j.val, by omega⟩ := Fin.ext hq
  rw [e, Z_at]
  exact Finset.sum_congr rfl fun k _ => by rw [normed_at, packed_first m c t k j h]

/-- A column of the first gap. -/
theorem col_gap (c : Dev nD) (t : Fin cfg0.N) (a : Fin 512) (j : Fin 6912) (h : 3104 ≤ j.val) (h' : j.val < 3200) :
    col m c t a j = 0 :=
  Finset.sum_eq_zero fun k _ => by rw [packed_gap m c t k j h h', mul_zero]

/-- A column between the gaps. -/
theorem col_second (c : Dev nD) (t : Fin cfg0.N) (a : Fin 512) (j : Fin 6912) (r : Fin 16384) (q : Fin 6752)
    (hr : r.val = 512 * t.val + a.val) (hq : q.val = j.val - 96) (h : 3200 ≤ j.val) (h' : j.val < 3776) :
    col m c t a j = Z m c (ix2 r q) := by
  obtain rfl : r = row t a := Fin.ext hr
  have e : q = ⟨j.val - 96, by omega⟩ := Fin.ext hq
  rw [e, Z_at]
  exact Finset.sum_congr rfl fun k _ => by rw [normed_at, packed_second m c t k j h h']

/-- A column of the second gap. -/
theorem col_gap' (c : Dev nD) (t : Fin cfg0.N) (a : Fin 512) (j : Fin 6912) (h : 3776 ≤ j.val) (h' : j.val < 3840) :
    col m c t a j = 0 :=
  Finset.sum_eq_zero fun k _ => by rw [packed_gap' m c t k j h h', mul_zero]

/-- A column after the second gap. -/
theorem col_third (c : Dev nD) (t : Fin cfg0.N) (a : Fin 512) (j : Fin 6912) (r : Fin 16384) (q : Fin 6752)
    (hr : r.val = 512 * t.val + a.val) (hq : q.val = j.val - 160) (h : 3840 ≤ j.val) :
    col m c t a j = Z m c (ix2 r q) := by
  obtain rfl : r = row t a := Fin.ext hr
  have e : q = ⟨j.val - 160, by omega⟩ := Fin.ext hq
  rw [e, Z_at]
  exact Finset.sum_congr rfl fun k _ => by rw [normed_at, packed_third m c t k j h]

end Cert.KernelInprojIdeal.Result

end
-- ==== Proof.InprojCols.lean ====
module

public import proofs.«01_k».proof.Proof.InprojKernel

/-! The input projection: the results that are a range of columns. -/

@[expose] public section

set_option maxRecDepth 16384

noncomputable section

open Idealize.ShloMosaic Idealize.ShloMosaic.TcCoe Idealize.SL.Sem

namespace Cert.KernelInprojIdeal.Result

open Cert.KernelInprojIdeal Cert.KernelInprojIdeal.Gen Cert.ReferenceInprojIdeal.Term

variable (m : (ℓ : Loc nD τ sig) → Buf (Elt Ideal) ℓ)

set_option maxHeartbeats 1000000 in
/-- The values of the neighbourhood attention. -/
theorem final_8 (c : Dev nD) : (dats m 0 c).arrAt 8 (cfgs 0).N = naV (Z m c) := by
  refine (dats m 0 c).arrAt_eq_of_covers 8 _ (by decide +kernel) fun t _ y => ?_
  blk_simp
  rw [after0_8]
  unfold_out out0_8
  frame_out
  pointwise [k0_pay9, naV]
  idx_bounds y
  exact col_first m c t (y 0) ⟨1024 + (y 1).val, by omega⟩ _ _ (by blk_simp [idx t]; omega) (by blk_simp [idx t])
    (by dsimp only; omega)

set_option maxHeartbeats 1000000 in
/-- The queries of the linear attention. -/
theorem final_9 (c : Dev nD) : (dats m 0 c).arrAt 9 (cfgs 0).N = glaQ (Z m c) := by
  refine (dats m 0 c).arrAt_eq_of_covers 9 _ (by decide +kernel) fun t _ y => ?_
  blk_simp
  rw [after0_9]
  unfold_out out0_9
  frame_out
  pointwise [k0_pay10, glaQ]
  idx_bounds y
  exact col_first m c t (y 0) ⟨1536 + (y 1).val, by omega⟩ _ _ (by blk_simp [idx t]; omega) (by blk_simp [idx t])
    (by dsimp only; omega)

set_option maxHeartbeats 1000000 in
/-- The keys of the linear attention. -/
theorem final_10 (c : Dev nD) : (dats m 0 c).arrAt 10 (cfgs 0).N = glaK (Z m c) := by
  refine (dats m 0 c).arrAt_eq_of_covers 10 _ (by decide +kernel) fun t _ y => ?_
  blk_simp
  rw [after0_10]
  unfold_out out0_10
  frame_out
  pointwise [k0_pay11, glaK]
  idx_bounds y
  exact col_first m c t (y 0) ⟨1792 + (y 1).val, by omega⟩ _ _ (by blk_simp [idx t]; omega) (by blk_simp [idx t])
    (by dsimp only; omega)

set_option maxHeartbeats 1000000 in
/-- The values of the linear attention. -/
theorem final_11 (c : Dev nD) : (dats m 0 c).arrAt 11 (cfgs 0).N = glaV (Z m c) := by
  refine (dats m 0 c).arrAt_eq_of_covers 11 _ (by decide +kernel) fun t _ y => ?_
  blk_simp
  rw [after0_11]
  unfold_out out0_11
  frame_out
  pointwise [k0_pay12, glaV]
  idx_bounds y
  exact col_first m c t (y 0) ⟨2048 + (y 1).val, by omega⟩ _ _ (by blk_simp [idx t]; omega) (by blk_simp [idx t])
    (by dsimp only; omega)

set_option maxHeartbeats 1000000 in
/-- The output gates of the linear attention. -/
theorem final_12 (c : Dev nD) : (dats m 0 c).arrAt 12 (cfgs 0).N = glaR (Z m c) := by
  refine (dats m 0 c).arrAt_eq_of_covers 12 _ (by decide +kernel) fun t _ y => ?_
  blk_simp
  rw [after0_12]
  unfold_out out0_12
  frame_out
  pointwise [k0_pay13, glaR]
  idx_bounds y
  exact col_first m c t (y 0) ⟨2560 + (y 1).val, by omega⟩ _ _ (by blk_simp [idx t]; omega) (by blk_simp [idx t])
    (by dsimp only; omega)

set_option maxHeartbeats 1000000 in
/-- The compressed queries of the latent attention. -/
theorem final_14 (c : Dev nD) : (dats m 0 c).arrAt 14 (cfgs 0).N = latQ (Z m c) := by
  refine (dats m 0 c).arrAt_eq_of_covers 14 _ (by decide +kernel) fun t _ y => ?_
  blk_simp
  rw [after0_14]
  unfold_out out0_14
  frame_out
  pointwise [k0_pay15, latQ]
  idx_bounds y
  exact col_second m c t (y 0) ⟨3200 + (y 1).val, by omega⟩ _ _ (by blk_simp [idx t]; omega) (by blk_simp [idx t]; dsimp only; omega)
    (by dsimp only; omega) (by dsimp only; omega)

set_option maxHeartbeats 1000000 in
/-- The compressed keys and values of the latent attention. -/
theorem final_15 (c : Dev nD) : (dats m 0 c).arrAt 15 (cfgs 0).N = latKV (Z m c) := by
  refine (dats m 0 c).arrAt_eq_of_covers 15 _ (by decide +kernel) fun t _ y => ?_
  blk_simp
  rw [after0_15]
  unfold_out out0_15
  frame_out
  pointwise [k0_pay16, latKV]
  idx_bounds y
  exact col_second m c t (y 0) ⟨3456 + (y 1).val, by omega⟩ _ _ (by blk_simp [idx t]; omega) (by blk_simp [idx t]; dsimp only; omega)
    (by dsimp only; omega) (by dsimp only; omega)

end Cert.KernelInprojIdeal.Result

end
-- ==== Proof.InprojPads.lean ====
module

public import proofs.«01_k».proof.Proof.InprojKernel

/-! The input projection: the results that end in empty lanes. -/

@[expose] public section

set_option maxRecDepth 16384

noncomputable section

open Idealize.ShloMosaic Idealize.ShloMosaic.TcCoe Idealize.SL.Sem

namespace Cert.KernelInprojIdeal.Result

open Cert.KernelInprojIdeal Cert.KernelInprojIdeal.Gen Cert.ReferenceInprojIdeal.Term

variable (m : (ℓ : Loc nD τ sig) → Buf (Elt Ideal) ℓ)

set_option maxHeartbeats 1000000 in
/-- The low-rank decays of the linear attention, then empty lanes. -/
theorem final_13 (c : Dev nD) : (dats m 0 c).arrAt 13 (cfgs 0).N = glaLow (Z m c) := by
  refine (dats m 0 c).arrAt_eq_of_covers 13 _ (by decide +kernel) fun t _ y => ?_
  blk_simp
  rw [after0_13]
  unfold_out out0_13
  frame_out
  pointwise [k0_pay14, glaLow]
  idx_bounds y
  refine Eq.trans (b := col m c t (y 0) ⟨3072 + (y 1).val, by omega⟩) rfl ?_
  have e0 : (((View.whole main_v30_7).slice (win0_13.rect t)).emb y 0).val = 512 * t.val + (y 0).val := by
    blk_simp [idx t]
    omega
  have e1 : (((View.whole main_v30_7).slice (win0_13.rect t)).emb y 1).val = (y 1).val := by blk_simp [idx t]
  split
  · split
    · exact col_first m c t _ _ _ _ e0 (congrArg (3072 + ·) e1) (by dsimp only; omega)
    · exact col_first m c t _ _ _ _ e0 (by dsimp only; omega) (by dsimp only; omega)
  · refine (col_gap m c t _ _ (by dsimp only; omega) (by dsimp only; omega)).trans ?_
    simp [FloatOps.sitofp]

set_option maxHeartbeats 1000000 in
/-- The rotary key of the latent attention, then empty lanes. -/
theorem final_16 (c : Dev nD) : (dats m 0 c).arrAt 16 (cfgs 0).N = latR (Z m c) := by
  refine (dats m 0 c).arrAt_eq_of_covers 16 _ (by decide +kernel) fun t _ y => ?_
  blk_simp
  rw [after0_16]
  unfold_out out0_16
  frame_out
  pointwise [k0_pay1, latR]
  idx_bounds y
  refine Eq.trans (b := col m c t (y 0) ⟨3712 + (y 1).val, by omega⟩) rfl ?_
  have e0 : (((View.whole main_v30_10).slice (win0_16.rect t)).emb y 0).val = 512 * t.val + (y 0).val := by
    blk_simp [idx t]
    omega
  have e1 : (((View.whole main_v30_10).slice (win0_16.rect t)).emb y 1).val = (y 1).val := by blk_simp [idx t]
  split
  · exact col_second m c t _ _ _ _ e0 (by dsimp only; omega) (by dsimp only; omega) (by dsimp only; omega)
  · refine (col_gap' m c t _ _ (by dsimp only; omega) (by dsimp only; omega)).trans ?_
    simp [FloatOps.sitofp]

end Cert.KernelInprojIdeal.Result

end
-- ==== Proof.InprojGates.lean ====
module

public import proofs.«01_k».proof.Proof.InprojKernel

/-! The input projection: the gates. -/

@[expose] public section

set_option maxRecDepth 16384

noncomputable section

open Idealize.ShloMosaic Idealize.ShloMosaic.TcCoe Idealize.SL.Sem

namespace Cert.KernelInprojIdeal.Result

open Cert.KernelInprojIdeal Cert.KernelInprojIdeal.Gen Cert.ReferenceInprojIdeal.Term

variable (m : (ℓ : Loc nD τ sig) → Buf (Elt Ideal) ℓ)

set_option maxHeartbeats 1000000 in
/-- The gates of the merge, stored in three tiles. -/
theorem final_17 (c : Dev nD) : (dats m 0 c).arrAt 17 (cfgs 0).N = gates (Z m c) := by
  refine (dats m 0 c).arrAt_eq_of_covers 17 _ (by decide +kernel) fun t _ y => ?_
  blk_simp
  rw [after0_17]
  unfold_out out0_17
  frame_out
  have e0 : (((View.whole main_v30_11).slice (win0_17.rect t)).emb y 0).val = 512 * t.val + (y 0).val := by
    blk_simp [idx t]
    omega
  have e1 : (((View.whole main_v30_11).slice (win0_17.rect t)).emb y 1).val = (y 1).val := by blk_simp [idx t]
  canon_tiles x h
  · pointwise [k0_pay4, gates]
    refine (congrArg Ideal.logistic (a₁ := col m c t (x 0) ⟨5888 + (x 1).val, by omega⟩) ?_).trans rfl
    exact col_third m c t _ _ _ _ (e0.trans (by omega)) (by dsimp only; omega) (by dsimp only; omega)
  · pointwise [k0_pay3, gates]
    refine (congrArg Ideal.logistic (a₁ := col m c t (x 0) ⟨4864 + (x 1).val, by omega⟩) ?_).trans rfl
    exact col_third m c t _ _ _ _ (e0.trans (by omega)) (by dsimp only; omega) (by dsimp only; omega)
  · pointwise [k0_pay2, gates]
    refine (congrArg Ideal.logistic (a₁ := col m c t (x 0) ⟨3840 + (x 1).val, by omega⟩) ?_).trans rfl
    exact col_third m c t _ _ _ _ (e0.trans (by omega)) (by dsimp only; omega) (by dsimp only; omega)
end Cert.KernelInprojIdeal.Result

end
-- ==== Proof.InprojGains.lean ====
module

public import proofs.«01_k».proof.Proof.InprojKernel

/-! The input projection: the small operands of the head norms, entry by entry. -/

@[expose] public section

set_option maxRecDepth 16384

noncomputable section

open Idealize.ShloMosaic Idealize.ShloMosaic.TcCoe Idealize.SL.Sem

namespace Cert.KernelInprojIdeal.Result

open Cert.KernelInprojIdeal Cert.KernelInprojIdeal.Gen Cert.ReferenceInprojIdeal.Term

variable (m : (ℓ : Loc nD τ sig) → Buf (Elt Ideal) ℓ)

/-- The gains of the query heads. -/
abbrev QN (c : Dev nD) : FVec Ideal Cert.ReferenceInprojIdeal.S64 .f32 := m ((c.tc : Thread nD τ).loc main_arg3)

/-- The gains of the key heads. -/
abbrev KN (c : Dev nD) : FVec Ideal Cert.ReferenceInprojIdeal.S64 .f32 := m ((c.tc : Thread nD τ).loc main_arg4)

/-- The number of a bit that says whether two small numbers are equal. -/
theorem same_bit (a b : ℕ) (ha : a < 8) (hb : b < 8) :
    FloatOps.uitofp (F := Ideal) .bf16 (IntOp.cmpi .eq (BitVec.ofNat 32 a) (BitVec.ofNat 32 b)) = if a = b then (1 : EReal) else 0 := by
  have key : (BitVec.ofNat 32 a = BitVec.ofNat 32 b) ↔ a = b := by
    constructor
    · intro h
      have := congrArg BitVec.toNat h
      simp only [BitVec.toNat_ofNat] at this
      omega
    · rintro rfl
      rfl
  by_cases h : a = b
  · subst h
    simp [FloatOps.uitofp, IntOp.cmpi]
  · simp [FloatOps.uitofp, IntOp.cmpi, h, key]

/-- The matrix that adds up the lanes of a head: one between lanes of one head, zero elsewhere. -/
theorem hsum_at (c : Dev nD) (t : Fin cfg0.N) (l j : Fin 512) :
    iblk m c 5 t (ix2 l j) = if l.val / 64 = j.val / 64 then (1 : EReal) else 0 := by
  have e : iblk m c 5 t (ix2 l j) = V m c main_v19 (ix2 l j) := by blk_point [iblk, idx t]
  rw [e]
  unfold V
  after_reads_at
  exact same_bit _ _ (by omega) (by omega)

/-- The query gains' row: the 64 gains for each head, scaled. -/
theorem qgain_at (c : Dev nD) (t : Fin cfg0.N) (z : Fin 1) (j j' : Fin 512) (h : j'.val = j.val) :
    iblk m c 3 t (ix2 z j) = (QN m c (ix1 ⟨j'.val % 64, by omega⟩) * Ideal.ofBits .f32 0x3E000000#32 : EReal) := by
  obtain rfl : j' = j := Fin.ext h
  have e : iblk m c 3 t (ix2 z j') = V m c main_v5 (ix2 z j') := by blk_point [iblk, idx t]
  rw [e]
  unfold V
  after_reads_at

/-- The key gains' row: the 64 gains for each head. -/
theorem kgain_at (c : Dev nD) (t : Fin cfg0.N) (z : Fin 1) (j j' : Fin 512) (h : j'.val = j.val) :
    iblk m c 4 t (ix2 z j) = KN m c (ix1 ⟨j'.val % 64, by omega⟩) := by
  obtain rfl : j' = j := Fin.ext h
  have e : iblk m c 4 t (ix2 z j') = V m c main_v9 (ix2 z j') := by blk_point [iblk, idx t]
  rw [e]
  unfold V
  after_reads_at

end Cert.KernelInprojIdeal.Result

end
-- ==== Proof.Reals.lean ====
module

public import Idealize.ShloMosaic.Lib.Pointwise
public import proofs.«01_k».proof.Proof.AttnMath

/-! Extended reals that are real numbers, and what is known of them: products, sums, a root mean square's reciprocal. -/

@[expose] public section

noncomputable section

open Idealize.ShloMosaic

namespace Cert.Reals

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (u : Finset ι) {f : ι → EReal} (h : ∀ i, IsReal (f i)) : IsReal (∑ i ∈ u, f i) := by
  choose g hg using h
  exact ⟨∑ i ∈ u, g i, by rw [Attn.coe_sum]; exact Finset.sum_congr rfl fun i _ => hg i⟩

/-- A real number less itself. -/
theorem IsReal.sub_self {x : EReal} (h : IsReal x) : x - x = 0 := by
  obtain ⟨r, rfl⟩ := h
  rw [← EReal.coe_sub, _root_.sub_self, EReal.coe_zero]

/-- The mean of squares of real numbers, over a positive count and with a positive number added, is positive and real; so
the reciprocal of its root is real. -/
theorem rsqrt_mean {ι : Type} (u : Finset ι) {f : ι → EReal} (h : ∀ i, IsReal (f i)) {n e : EReal}
    (hn : ∃ r : ℝ, 0 < r ∧ n = r) (he : ∃ r : ℝ, 0 < r ∧ e = r) :
    IsReal (Ideal.rsqrt (Ideal.div (∑ i ∈ u, f i * f i) n + e)) := by
  choose g hg using h
  obtain ⟨N, hN, rfl⟩ := hn
  obtain ⟨E, hE, rfl⟩ := he
  have hs : ∑ i ∈ u, f i * f i = ((∑ i ∈ u, g i * g i : ℝ) : EReal) := by
    rw [Attn.coe_sum]
    exact Finset.sum_congr rfl fun i _ => by rw [hg, EReal.coe_mul]
  have h0 : 0 < (∑ i ∈ u, g i * g i) * (1 / N) + E :=
    add_pos_of_nonneg_of_pos (mul_nonneg (Finset.sum_nonneg fun i _ => mul_self_nonneg _) (by positivity)) hE
  rw [hs, Ideal.div_coe hN.ne', ← EReal.coe_mul, ← EReal.coe_add, Ideal.rsqrt_coe, if_neg h0.not_gt, if_neg h0.ne']
  exact ⟨_, rfl⟩

/-- The small number added to a mean of squares is a positive real. -/
theorem eps_pos : ∃ r : ℝ, 0 < r ∧ Ideal.ofBits .f32 0x358637BD#32 = (r : EReal) :=
  ⟨8796093 * 2 ^ (-43 : ℤ), by positivity, by simp [Ideal.ofBits, Ideal.ieee]⟩

/-- The pattern of 1024. -/
theorem bits_1024 : Ideal.ofBits .f32 0x44800000#32 = ((1024 : ℝ) : EReal) := by
  simp [Ideal.ofBits, Ideal.ieee]
  rw [← EReal.coe_mul]
  norm_num

/-- The pattern of 64. -/
theorem bits_64 : Ideal.ofBits .f32 0x42800000#32 = ((64 : ℝ) : EReal) := by
  simp [Ideal.ofBits, Ideal.ieee]
  rw [← EReal.coe_mul]
  norm_num

/-- The pattern of a sixty-fourth. -/
theorem bits_inv64 : Ideal.ofBits .f32 0x3C800000#32 = ((1 / 64 : ℝ) : EReal) := by
  simp [Ideal.ofBits, Ideal.ieee]
  rw [← EReal.coe_mul]
  norm_num

/-- A sum over 512 lanes that keeps the lanes of one group of 64. -/
theorem sum_group (f : Fin 512 → EReal) (j : Fin 512) :
    ∑ l : Fin 512, f l * (if l.val / 64 = j.val / 64 then (1 : EReal) else 0)
      = ∑ d : Fin 64, f ⟨j.val / 64 * 64 + d.val, by omega⟩ := by
  simp only [mul_ite, mul_one, mul_zero]
  rw [← Finset.sum_filter]
  refine Finset.sum_bij' (fun l _ => (⟨l.val % 64, by omega⟩ : Fin 64)) (fun d _ => ⟨j.val / 64 * 64 + d.val, by omega⟩)
    (fun l _ => Finset.mem_univ _) (fun d _ => ?_) (fun l hl => ?_) (fun d _ => ?_) (fun l hl => ?_)
  · simp only [Finset.mem_filter, Finset.mem_univ, true_and]
    omega
  · have := (Finset.mem_filter.1 hl).2
    exact Fin.ext (by dsimp only; omega)
  · exact Fin.ext (by dsimp only; omega)
  · have := (Finset.mem_filter.1 hl).2
    exact congrArg f (Fin.ext (by dsimp only; omega))

end Cert.Reals

end
-- ==== Proof.InprojFinite.lean ====
module

public import proofs.«01_k».proof.Defs
public import proofs.«01_k».proof.Proof.AttnFinite
public import proofs.«01_k».proof.Proof.InprojRef
public import proofs.«01_k».proof.Proof.Reals

/-! What the input projection's precondition says: the rows, their gains and the weights are real numbers, and so is the
projection. -/

@[expose] public section

set_option maxRecDepth 16384

noncomputable section

open Idealize.ShloMosaic Idealize.ShloMosaic.TcCoe Idealize.SL.Sem Cert.Reals

namespace Cert.Pre_finite_inproj

/-- The side conditions of the precondition's operations. -/
instance facts : Cert.Pre_finite_inproj.Facts where
  bcast_S_S16384x1024 := by decide
  reducesTo_S16384x1024_S_d0_1 := by decide
  h_S_ := by decide
  bcast_S_S1024 := by decide
  reducesTo_S1024_S_d0 := by decide
  bcast_S_S1024x6752 := by decide
  reducesTo_S1024x6752_S_d0_1 := by decide

/-- The test of one array is 1 only for an array of real numbers. -/
theorem real_of_test {s : Shape} {l : List (Fin s.rank)} (X : FVec Ideal s .f32) (hb : S_.BroadcastsInDim s (![] : Fin 0 → Fin s.rank))
    (hr : s.ReducesTo l S_)
    (h : Host.reduce IntOp.andi (cmpf .olt (Host.absf X) (broadcastInDim s ![] hb (constant S_ .f32 0x7F800000#32)))
      (constantI S_ 1 1#1) hr Facts.h_S_ (fun a => a.elim0) = 1#1) (i : s.Idx) : IsReal (X i) := by
  have : Subsingleton S_.Idx := ⟨fun a b => funext fun k => k.elim0⟩
  have hi := Host.reduce_andi_all _ _ _ _ _ h i
  refine Pre_finite.real_of_lt ?_
  pointwise [Pre_finite.posInf] at hi
  exact Pre_finite.of_bit _ hi

/-- Under the precondition the rows, their gains and the weights are real. -/
theorem real_inputs (X : FVec Ideal S16384x1024 .f32) (G : FVec Ideal S1024 .f32) (W : FVec Ideal S1024x6752 .f32)
    (A B : FVec Ideal S64 .f32) (h : fn (F := Ideal) X G W A B = fun _ => 1#1) :
    (∀ i, IsReal (X i)) ∧ (∀ i, IsReal (G i)) ∧ ∀ i, IsReal (W i) := by
  have h0 := congrFun h (fun a => a.elim0)
  obtain ⟨hxg, hw⟩ := IntOp.andi_eq_one.1 h0
  obtain ⟨hx, hg⟩ := IntOp.andi_eq_one.1 hxg
  exact ⟨real_of_test X Facts.bcast_S_S16384x1024 Facts.reducesTo_S16384x1024_S_d0_1 hx,
    real_of_test G Facts.bcast_S_S1024 Facts.reducesTo_S1024_S_d0 hg,
    real_of_test W Facts.bcast_S_S1024x6752 Facts.reducesTo_S1024x6752_S_d0_1 hw⟩

end Cert.Pre_finite_inproj

namespace Cert.ReferenceInprojIdeal.Term

open Cert.ReferenceInprojIdeal Cert.ReferenceInprojIdeal.Gen

/-- Real rows and gains have real normalised rows. -/
theorem normed_real {X : FVec Ideal S16384x1024 .f32} {G : FVec Ideal S1024 .f32} (hX : ∀ i, IsReal (X i))
    (hG : ∀ i, IsReal (G i)) (r : Fin 16384) (k : Fin 1024) : IsReal (normed X G (ix2 r k)) := by
  have e : normed X G (ix2 r k) = X (ix2 r k) * Ideal.rsqrt (Ideal.div (∑ i, X (ix2 r i) * X (ix2 r i))
      (Ideal.ofBits .f32 0x44800000#32) + Ideal.ofBits .f32 0x358637BD#32) * G (ix1 k) := by
    pointwise [normed]
  rw [e]
  exact ((hX _).mul (rsqrt_mean _ (fun i => hX _) ⟨1024, by norm_num, bits_1024⟩ eps_pos)).mul (hG _)

/-- With real weights too, the projection is real. -/
theorem proj_real {X : FVec Ideal S16384x1024 .f32} {G : FVec Ideal S1024 .f32} {W : FVec Ideal S1024x6752 .f32}
    (hX : ∀ i, IsReal (X i)) (hG : ∀ i, IsReal (G i)) (hW : ∀ i, IsReal (W i)) (r : Fin 16384) (j : Fin 6752) :
    IsReal (proj X G W (ix2 r j)) := by
  have e : proj X G W (ix2 r j) = ∑ k, normed X G (ix2 r k) * W (ix2 k j) := by
    pointwise [proj]
  rw [e]
  exact IsReal.sum _ fun k => (normed_real hX hG r k).mul (hW _)

end Cert.ReferenceInprojIdeal.Term

end
-- ==== Proof.InprojHeads.lean ====
module

public import proofs.«01_k».proof.Proof.InprojGains
public import proofs.«01_k».proof.Proof.InprojFinite

/-! The input projection: the queries and keys, whose heads are normalised.

The kernel adds up a head's squares by a product with a matrix of ones and zeros, over the squares' high part and the rest
that the narrower format leaves; in exact arithmetic the rest is a real number less itself. -/

@[expose] public section

set_option maxRecDepth 16384

noncomputable section

open Idealize.ShloMosaic Idealize.ShloMosaic.TcCoe Idealize.SL.Sem Cert.Reals

namespace Cert.KernelInprojIdeal.Result

open Cert.KernelInprojIdeal Cert.KernelInprojIdeal.Gen Cert.ReferenceInprojIdeal.Term

variable (m : (ℓ : Loc nD τ sig) → Buf (Elt Ideal) ℓ)

/-- A product of two factors, the second itself a product. -/
theorem mul_split {a b x n s : EReal} (h : a = b) (hx : x = n * s) : a * x = b * n * s := by
  rw [h, hx, mul_assoc]

/-- A lane over its head's root mean square: the kernel's, over packed columns `p`, is the reference's, over columns `q`. -/
theorem head_at (c : Dev nD) (hX : ∀ i, IsReal (X m c i)) (hG : ∀ i, IsReal (G m c i)) (hW : ∀ i, IsReal (W m c i))
    (t : Fin cfg0.N) (a : Fin 512) (r : Fin 16384) (hr : r.val = 512 * t.val + a.val) (p : Fin 512 → Fin 6912)
    (q : Fin 512 → Fin 6752) (hpq : ∀ l, (q l).val = (p l).val) (hp : ∀ l, (p l).val < 3104) (j j' : Fin 512) (hj : j'.val = j.val) :
    col m c t a (p j) * Ideal.rsqrt ((∑ l, col m c t a (p l) * col m c t a (p l) * iblk m c 5 t (ix2 l j)
        + ∑ l, (col m c t a (p l) * col m c t a (p l) - col m c t a (p l) * col m c t a (p l)) * iblk m c 5 t (ix2 l j))
        * Ideal.ofBits .f32 0x3C800000#32 + Ideal.ofBits .f32 0x358637BD#32)
      = Z m c (ix2 r (q j')) * Ideal.rsqrt (Ideal.div (∑ d : Fin 64, Z m c (ix2 r (q ⟨j'.val / 64 * 64 + d.val, by omega⟩))
        * Z m c (ix2 r (q ⟨j'.val / 64 * 64 + d.val, by omega⟩))) (Ideal.ofBits .f32 0x42800000#32)
        + Ideal.ofBits .f32 0x358637BD#32) := by
  obtain rfl : j' = j := Fin.ext hj
  have hcol : ∀ l, col m c t a (p l) = Z m c (ix2 r (q l)) := fun l => col_first m c t a (p l) r (q l) hr (hpq l) (hp l)
  have hz : ∀ l, IsReal (Z m c (ix2 r (q l))) := fun l => proj_real hX hG hW r (q l)
  have hrest : ∑ l, (Z m c (ix2 r (q l)) * Z m c (ix2 r (q l)) - Z m c (ix2 r (q l)) * Z m c (ix2 r (q l)))
      * (if l.val / 64 = j'.val / 64 then (1 : EReal) else 0) = 0 :=
    Finset.sum_eq_zero fun l _ => by rw [((hz l).mul (hz l)).sub_self, zero_mul]
  simp only [hcol, hsum_at]
  rw [hrest, add_zero, sum_group (fun l => Z m c (ix2 r (q l)) * Z m c (ix2 r (q l))) j', bits_64,
    Ideal.div_coe (by norm_num), bits_inv64]

set_option maxHeartbeats 1000000 in
/-- The queries of the neighbourhood attention. -/
theorem final_6 (c : Dev nD) (hX : ∀ i, IsReal (X m c i)) (hG : ∀ i, IsReal (G m c i)) (hW : ∀ i, IsReal (W m c i)) :
    (dats m 0 c).arrAt 6 (cfgs 0).N = naQ (Z m c) (QN m c) := by
  refine (dats m 0 c).arrAt_eq_of_covers 6 _ (by decide +kernel) fun t _ y => ?_
  blk_simp
  rw [after0_6]
  unfold_out out0_6
  frame_out
  pointwise [k0_pay7, k0_pay6, naQ, headNorm]
  idx_bounds y
  have e0 : (((View.whole main_v30_0).slice (win0_6.rect t)).emb y 0).val = 512 * t.val + (y 0).val := by
    blk_simp [idx t]
    omega
  have e1 : (((View.whole main_v30_0).slice (win0_6.rect t)).emb y 1).val = (y 1).val := by blk_simp [idx t]
  exact mul_split (head_at m c hX hG hW t (y 0) _ e0 (fun l => ⟨l.val, by omega⟩) (fun l => ⟨l.val, by omega⟩)
    (fun l => rfl) (fun l => by dsimp only; omega) (y 1) _ e1) (qgain_at m c t 0 (y 1) _ e1)

set_option maxHeartbeats 1000000 in
/-- The keys of the neighbourhood attention. -/
theorem final_7 (c : Dev nD) (hX : ∀ i, IsReal (X m c i)) (hG : ∀ i, IsReal (G m c i)) (hW : ∀ i, IsReal (W m c i)) :
    (dats m 0 c).arrAt 7 (cfgs 0).N = naK (Z m c) (KN m c) := by
  refine (dats m 0 c).arrAt_eq_of_covers 7 _ (by decide +kernel) fun t _ y => ?_
  blk_simp
  rw [after0_7]
  unfold_out out0_7
  frame_out
  pointwise [k0_pay8, k0_pay6, naK, headNorm]
  idx_bounds y
  have e0 : (((View.whole main_v30_1).slice (win0_7.rect t)).emb y 0).val = 512 * t.val + (y 0).val := by
    blk_simp [idx t]
    omega
  have e1 : (((View.whole main_v30_1).slice (win0_7.rect t)).emb y 1).val = (y 1).val := by blk_simp [idx t]
  exact congrArg₂ (· * ·) (head_at m c hX hG hW t (y 0) _ e0 (fun l => ⟨512 + l.val, by omega⟩) (fun l => ⟨512 + l.val, by omega⟩)
    (fun l => rfl) (fun l => by dsimp only; omega) (y 1) _ e1) (kgain_at m c t 0 (y 1) _ e1)

end Cert.KernelInprojIdeal.Result

end
-- ==== Proof.InprojPair.lean ====
module

public import proofs.«01_k».proof.Defs
public import proofs.«01_k».proof.Proof.InprojCols
public import proofs.«01_k».proof.Proof.InprojPads
public import proofs.«01_k».proof.Proof.InprojGates
public import proofs.«01_k».proof.Proof.InprojHeads
public import Idealize.ShloMosaic.Adequacy
public import Idealize.ShloMosaic.Init

/-! The input projection: the kernel's run and the reference's, each with its twelve results as terms of the arguments. -/

@[expose] public section

set_option maxRecDepth 16384

noncomputable section

open Idealize.ShloMosaic Idealize.ShloMosaic.TcCoe Idealize.SL.Sem Cert.Reals

namespace Cert.KernelInprojIdeal.Result

open Cert.KernelInprojIdeal Cert.KernelInprojIdeal.Gen Cert.ReferenceInprojIdeal.Term

set_option maxHeartbeats 4000000 in
/-- The kernel's run. -/
theorem run (m : (ℓ : Loc nD τ sig) → Buf (Elt Ideal) ℓ) (g : Dev nD → PrngReg)
    (hreal : ∀ c, (∀ i, IsReal (X m c i)) ∧ (∀ i, IsReal (G m c i)) ∧ ∀ i, IsReal (W m c i)) :
    θ_run (defs (F := Ideal)) (onTc (τ := τ) (main (F := Ideal))) ⟨m, fun _ => 0, g⟩ fun r => ∀ c : Dev nD,
      r.2.mem ((c.tc : Thread nD τ).loc main_v30_0) = naQ (Z m c) (QN m c)
      ∧ r.2.mem ((c.tc : Thread nD τ).loc main_v30_1) = naK (Z m c) (KN m c)
      ∧ r.2.mem ((c.tc : Thread nD τ).loc main_v30_2) = naV (Z m c)
      ∧ r.2.mem ((c.tc : Thread nD τ).loc main_v30_3) = glaQ (Z m c)
      ∧ r.2.mem ((c.tc : Thread nD τ).loc main_v30_4) = glaK (Z m c)
      ∧ r.2.mem ((c.tc : Thread nD τ).loc main_v30_5) = glaV (Z m c)
      ∧ r.2.mem ((c.tc : Thread nD τ).loc main_v30_6) = glaR (Z m c)
      ∧ r.2.mem ((c.tc : Thread nD τ).loc main_v30_7) = glaLow (Z m c)
      ∧ r.2.mem ((c.tc : Thread nD τ).loc main_v30_8) = latQ (Z m c)
      ∧ r.2.mem ((c.tc : Thread nD τ).loc main_v30_9) = latKV (Z m c)
      ∧ r.2.mem ((c.tc : Thread nD τ).loc main_v30_10) = latR (Z m c)
      ∧ r.2.mem ((c.tc : Thread nD τ).loc main_v30_11) = gates (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (run_main m g) (unchanged m g))
  obtain ⟨hX, hG, hW⟩ := hreal c
  have hc := h.1 c
  refine ⟨?_, ?_, ?_, ?_, ?_, ?_, ?_, ?_, ?_, ?_, ?_, ?_, h.2 c⟩
  · refine Eq.trans ?_ (final_6 m c hX hG hW); frame_read hc
  · refine Eq.trans ?_ (final_7 m c hX hG hW); frame_read hc
  · refine Eq.trans ?_ (final_8 m c); frame_read hc
  · refine Eq.trans ?_ (final_9 m c); frame_read hc
  · refine Eq.trans ?_ (final_10 m c); frame_read hc
  · refine Eq.trans ?_ (final_11 m c); frame_read hc
  · refine Eq.trans ?_ (final_12 m c); frame_read hc
  · refine Eq.trans ?_ (final_13 m c); frame_read hc
  · refine Eq.trans ?_ (final_14 m c); frame_read hc
  · refine Eq.trans ?_ (final_15 m c); frame_read hc
  · exact Eq.trans (hc.left 16) (final_16 m c)
  · exact Eq.trans (hc.left 17) (final_17 m c)

end Cert.KernelInprojIdeal.Result

namespace Cert.Proof

open Cert.ReferenceInprojIdeal.Term Cert.KernelInprojIdeal.Result

/-- The reference's results are the kernel's. -/
theorem inproj_value : algebraic_KernelInprojIdeal_ReferenceInprojIdeal_pre_finite_inproj := by
  intro m g m' g' hpre hagree
  refine ⟨fun c => naQ (Z m c) (QN m c), fun c => naK (Z m c) (KN m c), fun c => naV (Z m c), fun c => glaQ (Z m c),
    fun c => glaK (Z m c), fun c => glaV (Z m c), fun c => glaR (Z m c), fun c => glaLow (Z m c), fun c => latQ (Z m c),
    fun c => latKV (Z m c), fun c => latR (Z m c), fun c => gates (Z m c),
    run m g fun c => Cert.Pre_finite_inproj.real_inputs _ _ _ _ _ (hpre c),
    (θ_run Cert.ReferenceInprojIdeal.defs _ _).mono (fun r h c => ?_) (Cert.ReferenceInprojIdeal.Value.run m' g')⟩
  obtain ⟨e0, e1, e2, e3, e4⟩ := hagree c
  have ez : proj (m' ((c.tc : Thread Cert.ReferenceInprojIdeal.nD Cert.ReferenceInprojIdeal.τ).loc Cert.ReferenceInprojIdeal.main_arg0))
      (m' ((c.tc : Thread Cert.ReferenceInprojIdeal.nD Cert.ReferenceInprojIdeal.τ).loc Cert.ReferenceInprojIdeal.main_arg1))
      (m' ((c.tc : Thread Cert.ReferenceInprojIdeal.nD Cert.ReferenceInprojIdeal.τ).loc Cert.ReferenceInprojIdeal.main_arg2)) = Z m c := by
    rw [e0, e1, e2]
  obtain ⟨h0, h1, h2, h3, h4, h5, h6, h7, h8, h9, h10, h11, hargs⟩ := h c
  exact ⟨h0.trans (congrArg₂ naQ ez e3), h1.trans (congrArg₂ naK ez e4), h2.trans (congrArg naV ez),
    h3.trans (congrArg glaQ ez), h4.trans (congrArg glaK ez), h5.trans (congrArg glaV ez), h6.trans (congrArg glaR ez),
    h7.trans (congrArg glaLow ez), h8.trans (congrArg latQ ez), h9.trans (congrArg latKV ez), h10.trans (congrArg latR ez),
    h11.trans (congrArg gates ez), hargs⟩

end Cert.Proof

end
-- ==== Proof.PrepRef.lean ====
module

public import proofs.«01_k».proof.Proof.Gen.ReferencePrepIdeal.Run
public import Idealize.ShloMosaic.Lib.Pointwise
public import Idealize.ShloMosaic.Lib.Claim

/-! The reference's queries, keys and values of the latent attention: its composed terms, part by part. -/

@[expose] public section

set_option maxRecDepth 16384

noncomputable section

open Idealize.ShloMosaic Idealize.ShloMosaic.TcCoe Idealize.SL.Sem

namespace Cert.ReferencePrepIdeal.Term

open Cert.ReferencePrepIdeal Cert.ReferencePrepIdeal.Gen

/-- The rows of `X`, each divided by its root mean square and scaled by `G`. -/
def normed (X : FVec Ideal S16384x256 .f32) (G : FVec Ideal S256 .f32) : FVec Ideal S16384x256 .f32 :=
  mulf (mulf X (broadcastInDim S16384x256 ![0, 1] bcast_S16384x1_S16384x256_0_1 (Host.rsqrt (addf (Host.divf (broadcastInDim S16384x1 ![0]
    bcast_S16384_S16384x1_0 (Host.reduceAdd (mulf X X) (constant S_ .f32 0x00000000#32) reducesTo_S16384x256_S16384_d1 h_S_)) (broadcastInDim S16384x1
    ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 (broadcastInDim S1x256 ![1] bcast_S256_S1x256_1 G))

/-- The queries, before their norm: token, head, lane. -/
def queries (X : FVec Ideal S16384x256 .f32) (G : FVec Ideal S256 .f32) (W : FVec Ideal S256x768 .f32) : FVec Ideal S4x4096x4x192 .f32 :=
  shapeCast _ (Host.dotGeneral dot_S16384x256_S256x768_S16384x768_1_0_0_1_n_n none (normed X G) W) shapeCasts_S16384x768_S4x4096x4x192

/-- The keys and values of all heads, side by side. -/
def expanded (X : FVec Ideal S16384x256 .f32) (G : FVec Ideal S256 .f32) (W : FVec Ideal S256x1024 .f32) : FVec Ideal S16384x1024 .f32 :=
  Host.dotGeneral dot_S16384x256_S256x1024_S16384x1024_1_0_0_1_n_n none (normed X G) W

/-- The keys, before their norm: 128 lanes of the head's own, then the rotary lanes, which all heads share. -/
def keys (KV : FVec Ideal S16384x1024 .f32) (R : FVec Ideal S16384x128 .f32) : FVec Ideal S4x4096x4x192 .f32 :=
  concatenate S4x4096x4x192 3 [⟨S4x4096x4x128, (extractStridedSlice S4x4096x4x128 ![0, 0, 0, 0] (shapeCast _ KV
    shapeCasts_S16384x1024_S4x4096x4x256) slices_S4x4096x4x256_S4x4096x4x128_0_0_0_0)⟩, ⟨S4x4096x4x64, (broadcastInDim S4x4096x4x64 ![0, 1, 2, 3]
    bcast_S4x4096x1x64_S4x4096x4x64_0_1_2_3 (shapeCast _ (extractStridedSlice S16384x64 ![0, 0] R slices_S16384x128_S16384x64_0_0)
    shapeCasts_S16384x64_S4x4096x1x64))⟩] concatenates_S4x4096x4x128_S4x4096x4x64_S4x4096x4x192_d3

/-- Every head's lanes divided by their root mean square and scaled by `N`. -/
def headNorm (Y : FVec Ideal S4x4096x4x192 .f32) (N : FVec Ideal S192 .f32) : FVec Ideal S4x4096x4x192 .f32 :=
  mulf (mulf Y (broadcastInDim S4x4096x4x192 ![0, 1, 2, 3] bcast_S4x4096x4x1_S4x4096x4x192_0_1_2_3 (Host.rsqrt (addf (Host.divf (broadcastInDim
    S4x4096x4x1 ![0, 1, 2] bcast_S4x4096x4_S4x4096x4x1_0_1_2 (Host.reduceAdd (mulf Y Y) (constant S_ .f32 0x00000000#32)
    reducesTo_S4x4096x4x192_S4x4096x4_d3 h_S_)) (broadcastInDim S4x4096x4x1 ![] bcast_S_S4x4096x4x1 (constant S_ .f32 0x43400000#32))) (broadcastInDim
    S4x4096x4x1 ![] bcast_S_S4x4096x4x1 (constant S_ .f32 0x358637BD#32)))))) (broadcastInDim S4x4096x4x192 ![0, 1, 2, 3]
    bcast_S1x1x1x192_S4x4096x4x192_0_1_2_3 (broadcastInDim S1x1x1x192 ![3] bcast_S192_S1x1x1x192_3 N))

/-- The angle by which a position turns a pair of lanes. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096
    32 0)))) (broadcastInDim S4096x32 ![0, 1] bcast_S1x32_S4096x32_0_1 (broadcastInDim S1x32 ![1] bcast_S32_S1x32_1 (Host.powf (broadcastInDim S32 ![]
    bcast_S_S32 (constant S_ .f32 0x461C4000#32)) (Host.divf (Host.negf (sitofp .f32 (iotaInDim S32 32 0))) (broadcastInDim S32 ![] bcast_S_S32
    (constant S_ .f32 0x42000000#32))))))

/-- The angles' cosines. -/
def cosines : FVec Ideal S4096x32 .f32 := Host.cos angles

/-- The angles' sines. -/
def sines : FVec Ideal S4096x32 .f32 := Host.sin angles

/-- The rotary lanes turned by their position's angles, every head filled up to 256 lanes, and the heads side by side. -/
def slabs (H : FVec Ideal S4x4096x4x192 .f32) : FVec Ideal S16384x1024 .bf16 :=
  truncf .bf16 (shapeCast _ (pad S4x4096x4x256 ![0, 0, 0, 0] ![0, 0, 0, 64] ![0, 0, 0, 0] (concatenate S4x4096x4x192 3 [⟨S4x4096x4x128,
    (extractStridedSlice S4x4096x4x128 ![0, 0, 0, 0] H slices_S4x4096x4x192_S4x4096x4x128_0_0_0_0)⟩, ⟨S4x4096x4x64, (concatenate S4x4096x4x64 3
    [⟨S4x4096x4x32, (subf (mulf (extractStridedSlice S4x4096x4x32 ![0, 0, 0, 0] (extractStridedSlice S4x4096x4x64 ![0, 0, 0, 128] H
    slices_S4x4096x4x192_S4x4096x4x64_0_0_0_128) slices_S4x4096x4x64_S4x4096x4x32_0_0_0_0) (broadcastInDim S4x4096x4x32 ![0, 1, 2, 3]
    bcast_S1x4096x1x32_S4x4096x4x32_0_1_2_3 (broadcastInDim S1x4096x1x32 ![1, 3] bcast_S4096x32_S1x4096x1x32_1_3 cosines))) (mulf (extractStridedSlice
    S4x4096x4x32 ![0, 0, 0, 32] (extractStridedSlice S4x4096x4x64 ![0, 0, 0, 128] H slices_S4x4096x4x192_S4x4096x4x64_0_0_0_128)
    slices_S4x4096x4x64_S4x4096x4x32_0_0_0_32) (broadcastInDim S4x4096x4x32 ![0, 1, 2, 3] bcast_S1x4096x1x32_S4x4096x4x32_0_1_2_3 (broadcastInDim
    S1x4096x1x32 ![1, 3] bcast_S4096x32_S1x4096x1x32_1_3 sines))))⟩, ⟨S4x4096x4x32, (addf (mulf (extractStridedSlice S4x4096x4x32 ![0, 0, 0, 0]
    (extractStridedSlice S4x4096x4x64 ![0, 0, 0, 128] H slices_S4x4096x4x192_S4x4096x4x64_0_0_0_128) slices_S4x4096x4x64_S4x4096x4x32_0_0_0_0)
    (broadcastInDim S4x4096x4x32 ![0, 1, 2, 3] bcast_S1x4096x1x32_S4x4096x4x32_0_1_2_3 (broadcastInDim S1x4096x1x32 ![1, 3]
    bcast_S4096x32_S1x4096x1x32_1_3 sines))) (mulf (extractStridedSlice S4x4096x4x32 ![0, 0, 0, 32] (extractStridedSlice S4x4096x4x64 ![0, 0, 0, 128]
    H slices_S4x4096x4x192_S4x4096x4x64_0_0_0_128) slices_S4x4096x4x64_S4x4096x4x32_0_0_0_32) (broadcastInDim S4x4096x4x32 ![0, 1, 2, 3]
    bcast_S1x4096x1x32_S4x4096x4x32_0_1_2_3 (broadcastInDim S1x4096x1x32 ![1, 3] bcast_S4096x32_S1x4096x1x32_1_3 cosines))))⟩]
    concatenates_S4x4096x4x32_S4x4096x4x32_S4x4096x4x64_d3)⟩] concatenates_S4x4096x4x128_S4x4096x4x64_S4x4096x4x192_d3) (sitofp .f32 (constantI S_ 32
    0#32)) pads_S4x4096x4x192_S4x4096x4x256_000_000_000_0640 h_S_) shapeCasts_S4x4096x4x256_S16384x1024) bitsLt_bf16_f32

/-- The values of all heads, side by side. -/
def values (KV : FVec Ideal S16384x1024 .f32) : FVec Ideal S16384x512 .bf16 :=
  truncf .bf16 (shapeCast _ (extractStridedSlice S4x4096x4x128 ![0, 0, 0, 128] (shapeCast _ KV shapeCasts_S16384x1024_S4x4096x4x256)
    slices_S4x4096x4x256_S4x4096x4x128_0_0_0_128) shapeCasts_S4x4096x4x128_S16384x512) bitsLt_bf16_f32

/-- A query entry. -/
theorem queries_at (X : FVec Ideal S16384x256 .f32) (G : FVec Ideal S256 .f32) (W : FVec Ideal S256x768 .f32)
    (b : Fin 4) (s : Fin 4096) (h : Fin 4) (l : Fin 192) :
    queries X G W (ix4 b s h l) = ∑ k : Fin 256, normed X G (ix2 ⟨4096 * b.val + s.val, by omega⟩ k) * W (ix2 k ⟨192 * h.val + l.val, by omega⟩) := by
  pointwise [queries]
  simp only [mul_comm b.val, mul_comm h.val]

/-- A key entry of the head's own. -/
theorem keys_own (KV : FVec Ideal S16384x1024 .f32) (R : FVec Ideal S16384x128 .f32)
    (b : Fin 4) (s : Fin 4096) (h : Fin 4) (l : Fin 192) (hl : l.val < 128) :
    keys KV R (ix4 b s h l) = KV (ix2 ⟨4096 * b.val + s.val, by omega⟩ ⟨256 * h.val + l.val, by omega⟩) := by
  pointwise [keys]
  rw [dif_pos hl]
  simp only [mul_comm b.val, mul_comm h.val]

/-- A rotary entry of the keys. -/
theorem keys_rot (KV : FVec Ideal S16384x1024 .f32) (R : FVec Ideal S16384x128 .f32)
    (b : Fin 4) (s : Fin 4096) (h : Fin 4) (l : Fin 192) (hl : 128 ≤ l.val) :
    keys KV R (ix4 b s h l) = R (ix2 ⟨4096 * b.val + s.val, by omega⟩ ⟨l.val - 128, by omega⟩) := by
  pointwise [keys]
  rw [dif_neg (by omega)]
  simp only [mul_comm b.val]

/-- A normalised entry. -/
theorem headNorm_at (Y : FVec Ideal S4x4096x4x192 .f32) (N : FVec Ideal S192 .f32) (b : Fin 4) (s : Fin 4096) (h : Fin 4) (l : Fin 192) :
    headNorm Y N (ix4 b s h l) = Y (ix4 b s h l) * Ideal.rsqrt (Ideal.div (∑ d, Y (ix4 b s h d) * Y (ix4 b s h d))
      (Ideal.ofBits .f32 0x43400000#32) + Ideal.ofBits .f32 0x358637BD#32) * N (ix1 l) := by
  pointwise [headNorm]

/-- A value entry. -/
theorem values_at (KV : FVec Ideal S16384x1024 .f32) (r : Fin 16384) (j : Fin 512) :
    values KV (ix2 r j) = KV (ix2 r ⟨256 * (j.val / 128) + 128 + j.val % 128, by omega⟩) := by
  pointwise [values]
  exact congrArg (fun q => KV (ix2 r q)) (Fin.ext (by dsimp only; omega))

/-- Two entries whose coordinates have equal numbers. -/
theorem entry_eq (H : FVec Ideal S4x4096x4x192 .f32) {b b' : Fin 4} {s s' : Fin 4096} {h h' : Fin 4} {l l' : Fin 192}
    (hb : b.val = b'.val) (hs : s.val = s'.val) (hh : h.val = h'.val) (hl : l.val = l'.val) : H (ix4 b s h l) = H (ix4 b' s' h' l') := by
  rw [Fin.ext hb, Fin.ext hs, Fin.ext hh, Fin.ext hl]

/-- Two table entries whose coordinates have equal numbers. -/
theorem table_eq (T : FVec Ideal S4096x32 .f32) {s s' : Fin 4096} {l l' : Fin 32} (hs : s.val = s'.val) (hl : l.val = l'.val) :
    T (ix2 s l) = T (ix2 s' l') := by
  rw [Fin.ext hs, Fin.ext hl]

section Slabs

variable (H : FVec Ideal S4x4096x4x192 .f32) (r : Fin 16384) (j : Fin 1024) (b : Fin 4) (s : Fin 4096) (h : Fin 4)

/-- A lane of a head's first half. -/
theorem slabs_own (l : Fin 192) (hr : r.val = 4096 * b.val + s.val) (hj : j.val = 256 * h.val + l.val) (hl : l.val < 128) :
    slabs H (ix2 r j) = H (ix4 b s h l) := by
  pointwise [slabs]
  rw [dif_pos (by omega), dif_pos (by omega)]
  exact entry_eq H (by dsimp only; omega) (by dsimp only; omega) (by dsimp only; omega) (by dsimp only; omega)

/-- A lane of the rotary part's first half. -/
theorem slabs_low (l : Fin 32) (hr : r.val = 4096 * b.val + s.val) (hj : j.val = 256 * h.val + 128 + l.val) :
    slabs H (ix2 r j) = (H (ix4 b s h ⟨128 + l.val, by omega⟩) * cosines (ix2 s l)
      - H (ix4 b s h ⟨160 + l.val, by omega⟩) * sines (ix2 s l) : EReal) := by
  pointwise [slabs]
  rw [dif_pos (by omega), dif_neg (by omega), dif_pos (by omega)]
  exact congrArg₂ (fun x y : EReal => x - y)
    (congrArg₂ (fun x y : EReal => x * y) (entry_eq H (by dsimp only; omega) (by dsimp only; omega) (by dsimp only; omega)
      (by dsimp only; omega)) (table_eq cosines (by dsimp only; omega) (by dsimp only; omega)))
    (congrArg₂ (fun x y : EReal => x * y) (entry_eq H (by dsimp only; omega) (by dsimp only; omega) (by dsimp only; omega)
      (by dsimp only; omega)) (table_eq sines (by dsimp only; omega) (by dsimp only; omega)))

/-- A lane of the rotary part's second half. -/
theorem slabs_high (l : Fin 32) (hr : r.val = 4096 * b.val + s.val) (hj : j.val = 256 * h.val + 160 + l.val) :
    slabs H (ix2 r j) = (H (ix4 b s h ⟨128 + l.val, by omega⟩) * sines (ix2 s l)
      + H (ix4 b s h ⟨160 + l.val, by omega⟩) * cosines (ix2 s l) : EReal) := by
  pointwise [slabs]
  rw [dif_pos (by omega), dif_neg (by omega), dif_neg (by omega)]
  exact congrArg₂ (fun x y : EReal => x + y)
    (congrArg₂ (fun x y : EReal => x * y) (entry_eq H (by dsimp only; omega) (by dsimp only; omega) (by dsimp only; omega)
      (by dsimp only; omega)) (table_eq sines (by dsimp only; omega) (by dsimp only; omega)))
    (congrArg₂ (fun x y : EReal => x * y) (entry_eq H (by dsimp only; omega) (by dsimp only; omega) (by dsimp only; omega)
      (by dsimp only; omega)) (table_eq cosines (by dsimp only; omega) (by dsimp only; omega)))

/-- An empty lane. -/
theorem slabs_empty (hj : 192 ≤ j.val % 256) : slabs H (ix2 r j) = (0 : EReal) := by
  pointwise [slabs]
  rw [dif_neg (by omega)]
  simp [FloatOps.sitofp]

end Slabs

end Cert.ReferencePrepIdeal.Term

end
-- ==== Proof.PrepKernel.lean ====
module

public import proofs.«01_k».proof.Proof.Gen.KernelPrepIdeal.Value
public import proofs.«01_k».proof.Proof.PrepRef
public import Idealize.ShloMosaic.Lib.Pipeline.ValueKit
public import Idealize.ShloMosaic.Lib.Pointwise
public import Idealize.ShloMosaic.Lib.Claim
public import Idealize.ShloMosaic.Lib.StableHlo.ReadAt

/-! The kernel's blocks for the queries, keys and values of the latent attention, entry by entry. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The compressed queries. -/
abbrev CQ (c : Dev nD) : FVec Ideal S16384x256 .f32 := m ((c.tc : Thread nD τ).loc main_arg0)

/-- The compressed keys and values. -/
abbrev CKV (c : Dev nD) : FVec Ideal S16384x256 .f32 := m ((c.tc : Thread nD τ).loc main_arg1)

/-- The rotary key. -/
abbrev KR (c : Dev nD) : FVec Ideal S16384x128 .f32 := m ((c.tc : Thread nD τ).loc main_arg2)

/-- The gains of the compressed queries. -/
abbrev CQG (c : Dev nD) : FVec Ideal S256 .f32 := m ((c.tc : Thread nD τ).loc main_arg3)

/-- The gains of the compressed keys and values. -/
abbrev CKVG (c : Dev nD) : FVec Ideal S256 .f32 := m ((c.tc : Thread nD τ).loc main_arg4)

/-- The weights of the queries. -/
abbrev WQ (c : Dev nD) : FVec Ideal S256x768 .f32 := m ((c.tc : Thread nD τ).loc main_arg5)

/-- The weights of the keys and values. -/
abbrev WKV (c : Dev nD) : FVec Ideal S256x1024 .f32 := m ((c.tc : Thread nD τ).loc main_arg6)

/-- The gains of the queries. -/
abbrev QN (c : Dev nD) : FVec Ideal S192 .f32 := m ((c.tc : Thread nD τ).loc main_arg7)

/-- The gains of the keys. -/
abbrev KN (c : Dev nD) : FVec Ideal S192 .f32 := m ((c.tc : Thread nD τ).loc main_arg8)

/-- Point `t` reads and writes row block `t`, and the tables' block of its positions. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val % 8, 0]
    ∧ win0_11.index t = ![t.val % 8, 0] ∧ win0_12.index t = ![t.val % 8, 0]
    ∧ win0_13.index t = ![t.val, 0] ∧ win0_14.index t = ![t.val, 0] ∧ win0_15.index t = ![t.val, 0] :=
  (by decide +kernel : ∀ t : Fin grid0.N, _)

/-- Row `a` of block `t` among all rows. -/
def row (t : Fin cfg0.N) (a : Fin 512) : Fin 16384 :=
  ⟨512 * t.val + a.val, by
    have h : t.val < 32 := t.isLt.trans_eq (by decide +kernel)
    omega⟩

/-- The sequence of row `a` of block `t`. -/
def seq (t : Fin cfg0.N) : Fin 4 :=
  ⟨t.val / 8, by
    have h : t.val < 32 := t.isLt.trans_eq (by decide +kernel)
    omega⟩

/-- The position of row `a` of block `t` in its sequence. -/
def pos (t : Fin cfg0.N) (a : Fin 512) : Fin 4096 := ⟨512 * (t.val % 8) + a.val, by omega⟩

theorem cq_at (c : Dev nD) (t : Fin cfg0.N) (a : Fin 512) (k : Fin 256) : iblk m c 0 t (ix2 a k) = CQ m c (ix2 (row t a) k) := by
  blk_point [iblk, V_main_arg0, idx t, row]

theorem ckv_at (c : Dev nD) (t : Fin cfg0.N) (a : Fin 512) (k : Fin 256) : iblk m c 1 t (ix2 a k) = CKV m c (ix2 (row t a) k) := by
  blk_point [iblk, V_main_arg1, idx t, row]

theorem kr_at (c : Dev nD) (t : Fin cfg0.N) (a : Fin 512) (l : Fin 128) : iblk m c 2 t (ix2 a l) = KR m c (ix2 (row t a) l) := by
  blk_point [iblk, V_main_arg2, idx t, row]

end Cert.KernelPrepIdeal.Result

end
-- ==== Proof.PrepTables.lean ====
module

public import proofs.«01_k».proof.Proof.PrepKernel

/-! The tables of the rotary lanes' cosines and sines that the host prepares for the call, entry by entry. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The cosines' table: the cosines on both halves. -/
theorem cos_at (c : Dev nD) (t : Fin cfg0.N) (a : Fin 512) (l : Fin 128) (i : Fin 32) (hl : l.val = i.val ∨ l.val = 32 + i.val) :
    iblk m c 10 t (ix2 a l) = cosines (ix2 (pos t a) i) := by
  have e : iblk m c 10 t (ix2 a l) = V m c main_v31 (ix2 (pos t a) l) := by blk_point [iblk, idx t, pos]
  rw [e]
  unfold V
  after_reads_at
  rcases hl with hl | hl
  · have ei : i = ⟨l.val, by omega⟩ := Fin.ext hl.symm
    rw [ei]
    rw [dif_pos (by omega)]
    after_reads_at
    pointwise [cosines, angles]
  · have ei : i = ⟨l.val - 32, by omega⟩ := Fin.ext (by dsimp only; omega)
    rw [ei]
    rw [dif_neg (by omega), dif_pos (by omega)]
    after_reads_at
    pointwise [cosines, angles]

/-- The table of the lanes 32 ahead: minus the sines on the first half. -/
theorem sa_at (c : Dev nD) (t : Fin cfg0.N) (a : Fin 512) (l : Fin 128) (i : Fin 32) (hl : l.val = i.val) :
    iblk m c 11 t (ix2 a l) = (-sines (ix2 (pos t a) i) : EReal) := by
  have e : iblk m c 11 t (ix2 a l) = V m c main_v33 (ix2 (pos t a) l) := by blk_point [iblk, idx t, pos]
  rw [e]
  unfold V
  after_reads_at
  have ei : i = ⟨l.val, by omega⟩ := Fin.ext hl.symm
  rw [ei]
  rw [dif_pos (by omega)]
  after_reads_at
  pointwise [sines, angles]

/-- That table elsewhere. -/
theorem sa_empty (c : Dev nD) (t : Fin cfg0.N) (a : Fin 512) (l : Fin 128) (hl : 32 ≤ l.val) :
    iblk m c 11 t (ix2 a l) = (0 : EReal) := by
  have e : iblk m c 11 t (ix2 a l) = V m c main_v33 (ix2 (pos t a) l) := by blk_point [iblk, idx t, pos]
  rw [e]
  unfold V
  after_reads_at
  rw [dif_neg (by omega)]
  split <;> after_reads_at <;> simp [Ideal.ofBits, Ideal.ieee]

/-- The table of the lanes 32 behind: the sines on the second half. -/
theorem sb_at (c : Dev nD) (t : Fin cfg0.N) (a : Fin 512) (l : Fin 128) (i : Fin 32) (hl : l.val = 32 + i.val) :
    iblk m c 12 t (ix2 a l) = sines (ix2 (pos t a) i) := by
  have e : iblk m c 12 t (ix2 a l) = V m c main_v34 (ix2 (pos t a) l) := by blk_point [iblk, idx t, pos]
  rw [e]
  unfold V
  after_reads_at
  have ei : i = ⟨l.val - 32, by omega⟩ := Fin.ext (by dsimp only; omega)
  rw [ei]
  rw [dif_neg (by omega), dif_pos (by omega)]
  after_reads_at
  pointwise [sines, angles]

/-- That table elsewhere. -/
theorem sb_empty (c : Dev nD) (t : Fin cfg0.N) (a : Fin 512) (l : Fin 128) (hl : l.val < 32 ∨ 64 ≤ l.val) :
    iblk m c 12 t (ix2 a l) = (0 : EReal) := by
  have e : iblk m c 12 t (ix2 a l) = V m c main_v34 (ix2 (pos t a) l) := by blk_point [iblk, idx t, pos]
  rw [e]
  unfold V
  after_reads_at
  rcases hl with hl | hl
  · rw [dif_pos (by omega)]
    after_reads_at
  · rw [dif_neg (by omega), dif_neg (by omega)]
    after_reads_at

end Cert.KernelPrepIdeal.Result

end
-- ==== Proof.PrepTurn.lean ====
module

public import proofs.«01_k».proof.Proof.PrepTables

/-! The kernel turns a slab of 128 lanes, of which the last 64 are empty, by rotating it 96 and 32 lanes and adding up the
products with three tables. That is the reference's turn of the 64 lanes in two halves. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The tables as the kernel reads them. -/
theorem table_10 (v : FVec Ideal S512x128 .f32) (x : S512x128.Idx) : k0_pay5 v x = v (ix2 (x 0) (x 1)) := by
  rw [eq_ix2 x]
  pointwise [k0_pay5]

theorem table_11 (v : FVec Ideal S512x128 .f32) (x : S512x128.Idx) : k0_pay6 v x = v (ix2 (x 0) (x 1)) := by
  rw [eq_ix2 x]
  pointwise [k0_pay6]

theorem table_12 (v : FVec Ideal S512x128 .f32) (x : S512x128.Idx) : k0_pay7 v x = v (ix2 (x 0) (x 1)) := by
  rw [eq_ix2 x]
  pointwise [k0_pay7]

/-- The kernel's turned lane `l` of the lanes `f`, at row `a` of block `t`. -/
def turn (c : Dev nD) (t : Fin cfg0.N) (a : Fin 512) (f : Fin 128 → EReal) (l : Fin 128) : EReal :=
  f l * iblk m c 10 t (ix2 a l) + f ⟨(l.val + 128 - 96) % 128, Nat.mod_lt _ (by decide)⟩ * iblk m c 11 t (ix2 a l)
    + f ⟨(l.val + 128 - 32) % 128, Nat.mod_lt _ (by decide)⟩ * iblk m c 12 t (ix2 a l)

/-- The factors of a product trade places. -/
theorem mul_swap (x y z : EReal) : x * y * z = x * z * y := mul_right_comm x y z

/-- The sign of a factor is the product's. -/
theorem mul_minus (x y : EReal) : x * -y = -(x * y) := by rw [EReal.mul_comm, EReal.neg_mul, EReal.mul_comm]

/-- A turn of a multiple is the multiple of the turn, for a non-negative real factor. -/
theorem turn_mul (c : Dev nD) (t : Fin cfg0.N) (a : Fin 512) (f : Fin 128 → EReal) (l : Fin 128) (v : ℝ) (hv : 0 ≤ v) :
    turn m c t a f l * (v : EReal) = turn m c t a (fun i => f i * (v : EReal)) l := by
  have h0 : (0 : EReal) ≤ (v : EReal) := by exact_mod_cast hv
  unfold turn
  rw [EReal.right_distrib_of_nonneg_of_ne_top h0 (EReal.coe_ne_top v), EReal.right_distrib_of_nonneg_of_ne_top h0 (EReal.coe_ne_top v),
    mul_swap _ _ (v : EReal), mul_swap _ _ (v : EReal), mul_swap _ _ (v : EReal)]

variable (c : Dev nD) (t : Fin cfg0.N) (a : Fin 512) (f : Fin 128 → EReal) (hf : ∀ l : Fin 128, 64 ≤ l.val → f l = 0)

include hf

/-- A turned lane of the first half. -/
theorem turn_low (l : Fin 128) (i : Fin 32) (hl : l.val = i.val) :
    turn m c t a f l = f ⟨i.val, by omega⟩ * cosines (ix2 (pos t a) i) - f ⟨32 + i.val, by omega⟩ * sines (ix2 (pos t a) i) := by
  have e : l = ⟨i.val, by omega⟩ := Fin.ext hl
  have e1 : (⟨(l.val + 128 - 96) % 128, Nat.mod_lt _ (by decide)⟩ : Fin 128) = ⟨32 + i.val, by omega⟩ := Fin.ext (by dsimp only; omega)
  unfold turn
  rw [e1, cos_at m c t a l i (.inl hl), sa_at m c t a l i hl, sb_empty m c t a l (.inl (by omega)), mul_zero, add_zero, mul_minus,
    ← sub_eq_add_neg]
  exact congrArg (fun q => f q * _ - _) e

/-- A turned lane of the second half. -/
theorem turn_high (l : Fin 128) (i : Fin 32) (hl : l.val = 32 + i.val) :
    turn m c t a f l = f ⟨i.val, by omega⟩ * sines (ix2 (pos t a) i) + f ⟨32 + i.val, by omega⟩ * cosines (ix2 (pos t a) i) := by
  have e : l = ⟨32 + i.val, by omega⟩ := Fin.ext hl
  have e1 : (⟨(l.val + 128 - 32) % 128, Nat.mod_lt _ (by decide)⟩ : Fin 128) = ⟨i.val, by omega⟩ := Fin.ext (by dsimp only; omega)
  unfold turn
  rw [e1, cos_at m c t a l i (.inr hl), sa_empty m c t a l (by omega), sb_at m c t a l i hl, mul_zero, add_zero, add_comm]
  exact congrArg (fun q => _ + f q * _) e

/-- A turned empty lane. -/
theorem turn_empty (l : Fin 128) (hl : 64 ≤ l.val) : turn m c t a f l = 0 := by
  unfold turn
  rw [hf l hl, sa_empty m c t a l (by omega), sb_empty m c t a l (.inr hl), zero_mul, mul_zero, mul_zero, add_zero, add_zero]

/-- The kernel's turned slab is the reference's, for lanes that are the head's rotary lanes. -/
theorem turn_slabs (H : FVec Ideal Cert.ReferencePrepIdeal.S4x4096x4x192 .f32) (h : Fin 4)
    (hH : ∀ l : Fin 64, f ⟨l.val, by omega⟩ = H (ix4 (seq t) (pos t a) h ⟨128 + l.val, by omega⟩)) (l : Fin 128)
    (r : Fin 16384) (j : Fin 1024) (hr : r.val = 512 * t.val + a.val) (hj : j.val = 256 * h.val + 128 + l.val) :
    turn m c t a f l = slabs H (ix2 r j) := by
  have hr' : r.val = 4096 * (seq t).val + (pos t a).val := by
    unfold seq pos
    dsimp only
    omega
  by_cases h1 : l.val < 32
  · rw [turn_low m c t a f hf l ⟨l.val, h1⟩ rfl, slabs_low H r j _ _ h ⟨l.val, h1⟩ hr' hj,
      hH ⟨l.val, by omega⟩, hH ⟨32 + l.val, by omega⟩]
    exact congrArg (fun q => _ - q * _) (entry_eq H rfl rfl rfl (by dsimp only; omega))
  · by_cases h2 : l.val < 64
    · rw [turn_high m c t a f hf l ⟨l.val - 32, by omega⟩ (by dsimp only; omega),
        slabs_high H r j _ _ h ⟨l.val - 32, by omega⟩ hr' (by dsimp only; omega), hH ⟨l.val - 32, by omega⟩,
        hH ⟨32 + (l.val - 32), by omega⟩]
      exact congrArg (fun q => _ + q * _) (entry_eq H rfl rfl rfl (by dsimp only; omega))
    · rw [turn_empty m c t a f hf l (by omega), slabs_empty H r j (by omega)]

end Cert.KernelPrepIdeal.Result

end
-- ==== Proof.PrepGains.lean ====
module

public import proofs.«01_k».proof.Proof.PrepKernel

/-! The small operands and the packed weights that the host prepares for the call, entry by entry. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The row of the compressed queries' gains. -/
theorem cqg_at (c : Dev nD) (t : Fin cfg0.N) (z : Fin 1) (k : Fin 256) : iblk m c 3 t (ix2 z k) = CQG m c (ix1 k) := by
  have e : iblk m c 3 t (ix2 z k) = V m c main_v35 (ix2 z k) := by blk_point [iblk, idx t]
  rw [e]
  unfold V
  after_reads_at

/-- The row of the compressed keys' and values' gains. -/
theorem ckvg_at (c : Dev nD) (t : Fin cfg0.N) (z : Fin 1) (k : Fin 256) : iblk m c 4 t (ix2 z k) = CKVG m c (ix1 k) := by
  have e : iblk m c 4 t (ix2 z k) = V m c main_v36 (ix2 z k) := by blk_point [iblk, idx t]
  rw [e]
  unfold V
  after_reads_at

/-- The packed weights of the queries. -/
theorem wq_at (c : Dev nD) (t : Fin cfg0.N) (k : Fin 256) (j : Fin 1024) (h : Fin 4) (l : Fin 192) (hj : j.val = 256 * h.val + l.val) :
    iblk m c 5 t (ix2 k j) = WQ m c (ix2 k ⟨192 * h.val + l.val, by omega⟩) := by
  have e : iblk m c 5 t (ix2 k j) = V m c main_v3 (ix2 k j) := by blk_point [iblk, idx t]
  rw [e]
  unfold V
  after_reads_at
  rw [dif_pos (by omega)]
  exact congrArg (fun q : Fin 768 => WQ m c (ix2 k q)) (Fin.ext (by dsimp only; omega))

/-- The packed weights' empty columns. -/
theorem wq_empty (c : Dev nD) (t : Fin cfg0.N) (k : Fin 256) (j : Fin 1024) (hj : 192 ≤ j.val % 256) :
    iblk m c 5 t (ix2 k j) = (0 : EReal) := by
  have e : iblk m c 5 t (ix2 k j) = V m c main_v3 (ix2 k j) := by blk_point [iblk, idx t]
  rw [e]
  unfold V
  after_reads_at
  rw [dif_neg (by omega)]
  simp [FloatOps.sitofp]

/-- The packed weights of the keys and values. -/
theorem wkv_at (c : Dev nD) (t : Fin cfg0.N) (k : Fin 256) (j : Fin 1024) (p : Fin 2) (h : Fin 4) (l : Fin 128)
    (hj : j.val = 512 * p.val + 128 * h.val + l.val) :
    iblk m c 6 t (ix2 k j) = WKV m c (ix2 k ⟨256 * h.val + 128 * p.val + l.val, by omega⟩) := by
  have e : iblk m c 6 t (ix2 k j) = V m c main_v7 (ix2 k j) := by blk_point [iblk, idx t]
  rw [e]
  unfold V
  after_reads_at
  exact congrArg (fun q : Fin 1024 => WKV m c (ix2 k q)) (Fin.ext (by dsimp only; omega))

/-- The row of the queries' gains. -/
theorem qg_at (c : Dev nD) (t : Fin cfg0.N) (z : Fin 1) (l : Fin 256) (hl : l.val < 192) :
    iblk m c 7 t (ix2 z l) = QN m c (ix1 ⟨l.val, hl⟩) := by
  have e : iblk m c 7 t (ix2 z l) = V m c main_v9 (ix2 z l) := by blk_point [iblk, idx t]
  rw [e]
  unfold V
  after_reads_at
  rw [dif_pos hl]

/-- The row of the keys' gains, the head's own lanes. -/
theorem kgn_at (c : Dev nD) (t : Fin cfg0.N) (z : Fin 1) (l : Fin 128) :
    iblk m c 8 t (ix2 z l) = KN m c (ix1 ⟨l.val, by omega⟩) := by
  have e : iblk m c 8 t (ix2 z l) = V m c main_v11 (ix2 z l) := by blk_point [iblk, idx t]
  rw [e]
  unfold V
  after_reads_at

/-- The row of the keys' gains, the rotary lanes. -/
theorem kgr_at (c : Dev nD) (t : Fin cfg0.N) (z : Fin 1) (l : Fin 128) (hl : l.val < 64) :
    iblk m c 9 t (ix2 z l) = KN m c (ix1 ⟨128 + l.val, by omega⟩) := by
  have e : iblk m c 9 t (ix2 z l) = V m c main_v14 (ix2 z l) := by blk_point [iblk, idx t]
  rw [e]
  unfold V
  after_reads_at
  rw [dif_pos hl]

/-- The row of the keys' gains, the empty lanes. -/
theorem kgr_empty (c : Dev nD) (t : Fin cfg0.N) (z : Fin 1) (l : Fin 128) (hl : 64 ≤ l.val) :
    iblk m c 9 t (ix2 z l) = (0 : EReal) := by
  have e : iblk m c 9 t (ix2 z l) = V m c main_v14 (ix2 z l) := by blk_point [iblk, idx t]
  rw [e]
  unfold V
  after_reads_at
  rw [dif_neg (by omega)]
  simp [FloatOps.sitofp]

end Cert.KernelPrepIdeal.Result

end
-- ==== Proof.PrepHeads.lean ====
module

public import proofs.«01_k».proof.Proof.PrepGains
public import proofs.«01_k».proof.Proof.Reals

/-! The kernel's products with the packed weights, and its heads' norms, are the reference's. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The name for one over a head's width. -/
theorem inv_head : (Named.named κ "inv_head" 0x3BAAAAAB#32 : Ideal .f32) = ((1 / 192 : ℝ) : EReal) :=
  IdealRules.named_const.ideal_named_scalar _ _ _ _ rfl

/-- The pattern of 192. -/
theorem bits_192 : Ideal.ofBits .f32 0x43400000#32 = ((192 : ℝ) : EReal) := by
  simp [Ideal.ofBits, Ideal.ieee]
  rw [← EReal.coe_mul]
  norm_num

/-- A square is not negative. -/
theorem square_nonneg (x : EReal) : 0 ≤ x * x := by
  induction x using EReal.rec with
  | bot => simp
  | coe r => exact_mod_cast mul_self_nonneg r
  | top => simp

/-- The row `a` of block `t` is a position of a sequence. -/
theorem row_eq (t : Fin cfg0.N) (a : Fin 512) (h : 4096 * (seq t).val + (pos t a).val < 16384) :
    (⟨4096 * (seq t).val + (pos t a).val, h⟩ : Fin 16384) = row t a :=
  Fin.ext (by
    unfold seq pos row
    dsimp only
    omega)

/-- The kernel's product of the normalised compressed queries with a packed column. -/
def colQ (c : Dev nD) (t : Fin cfg0.N) (a : Fin 512) (j : Fin 1024) : EReal :=
  k0_pay8 (iblk m c 0 t) (iblk m c 3 t) (iblk m c 5 t) (ix2 a j)

/-- It is a query's lane. -/
theorem colQ_at (c : Dev nD) (t : Fin cfg0.N) (a : Fin 512) (j : Fin 1024) (h : Fin 4) (l : Fin 192) (hj : j.val = 256 * h.val + l.val) :
    colQ m c t a j = queries (CQ m c) (CQG m c) (WQ m c) (ix4 (seq t) (pos t a) h l) := by
  rw [queries_at, row_eq]
  unfold colQ
  pointwise [k0_pay8, normed]
  simp only [cq_at, cqg_at, wq_at m c t _ j h l hj]

/-- Or it is empty. -/
theorem colQ_empty (c : Dev nD) (t : Fin cfg0.N) (a : Fin 512) (j : Fin 1024) (hj : 192 ≤ j.val % 256) : colQ m c t a j = 0 := by
  unfold colQ
  pointwise [k0_pay8]
  exact Finset.sum_eq_zero fun k _ => by rw [wq_empty m c t k j hj, mul_zero]

/-- The kernel's lane `l` of a query, normalised, over the head's packed columns `p`. -/
def laneQ (c : Dev nD) (t : Fin cfg0.N) (a : Fin 512) (p : Fin 256 → Fin 1024) (l : Fin 256) : EReal :=
  colQ m c t a (p l) * Ideal.rsqrt ((∑ d, colQ m c t a (p d) * colQ m c t a (p d)) * (Named.named κ "inv_head" 0x3BAAAAAB#32 : Ideal .f32)
    + Ideal.ofBits .f32 0x358637BD#32) * iblk m c 7 t (ix2 0 l)

/-- It is the reference's. -/
theorem laneQ_at (c : Dev nD) (t : Fin cfg0.N) (a : Fin 512) (p : Fin 256 → Fin 1024) (h : Fin 4)
    (hp : ∀ d, (p d).val = 256 * h.val + d.val) (l : Fin 256) (l' : Fin 192) (hl : l'.val = l.val) :
    laneQ m c t a p l = headNorm (queries (CQ m c) (CQG m c) (WQ m c)) (QN m c) (ix4 (seq t) (pos t a) h l') := by
  have hs : ∑ d, colQ m c t a (p d) * colQ m c t a (p d)
      = ∑ d : Fin 192, queries (CQ m c) (CQG m c) (WQ m c) (ix4 (seq t) (pos t a) h d) * queries (CQ m c) (CQG m c) (WQ m c) (ix4 (seq t) (pos t a) h d) := by
    rw [Fin.sum_univ_add (a := 192) (b := 64) fun d : Fin 256 => colQ m c t a (p d) * colQ m c t a (p d)]
    have hz : ∑ d : Fin 64, colQ m c t a (p (Fin.natAdd 192 d)) * colQ m c t a (p (Fin.natAdd 192 d)) = 0 :=
      Finset.sum_eq_zero fun d _ => by
        rw [colQ_empty m c t a _ (by rw [hp, Fin.coe_natAdd]; omega), mul_zero]
    rw [hz, add_zero]
    exact Finset.sum_congr rfl fun d _ => by rw [colQ_at m c t a _ h d (hp _)]
  have hg : iblk m c 7 t (ix2 0 l) = QN m c (ix1 l') := by
    rw [qg_at m c t 0 l (by omega)]
    exact congrArg (fun q => QN m c (ix1 q)) (Fin.ext hl.symm)
  unfold laneQ
  rw [headNorm_at, hs, hg, colQ_at m c t a _ h l' (by rw [hp, hl]), inv_head, bits_192, Ideal.div_coe (by norm_num)]

/-- Or it is empty. -/
theorem laneQ_empty (c : Dev nD) (t : Fin cfg0.N) (a : Fin 512) (p : Fin 256 → Fin 1024) (h : Fin 4)
    (hp : ∀ d, (p d).val = 256 * h.val + d.val) (l : Fin 256) (hl : 192 ≤ l.val) : laneQ m c t a p l = 0 := by
  unfold laneQ
  rw [colQ_empty m c t a _ (by rw [hp]; omega), zero_mul, zero_mul]

/-- The kernel's product of the normalised compressed keys and values with a packed column. -/
def colKV (c : Dev nD) (t : Fin cfg0.N) (a : Fin 512) (j : Fin 1024) : EReal :=
  k0_pay24 (iblk m c 1 t) (iblk m c 4 t) (iblk m c 6 t) (ix2 a j)

/-- It is a lane of the expanded keys (`p = 0`) or values (`p = 1`). -/
theorem colKV_at (c : Dev nD) (t : Fin cfg0.N) (a : Fin 512) (j : Fin 1024) (p : Fin 2) (h : Fin 4) (l : Fin 128)
    (hj : j.val = 512 * p.val + 128 * h.val + l.val) (r : Fin 16384) (q : Fin 1024) (hr : r.val = 512 * t.val + a.val)
    (hq : q.val = 256 * h.val + 128 * p.val + l.val) :
    colKV m c t a j = expanded (CKV m c) (CKVG m c) (WKV m c) (ix2 r q) := by
  obtain rfl : r = row t a := Fin.ext hr
  have e : q = ⟨256 * h.val + 128 * p.val + l.val, by omega⟩ := Fin.ext hq
  rw [e]
  unfold colKV
  pointwise [k0_pay24, expanded, normed]
  simp only [ckv_at, ckvg_at, wkv_at m c t _ j p h l hj]

/-- A lane of the rotary key's block. -/
def rot (c : Dev nD) (t : Fin cfg0.N) (a : Fin 512) (l : Fin 128) : EReal := iblk m c 2 t (ix2 a l)

/-- The kernel's sum of a key's squares. -/
def squares (c : Dev nD) (t : Fin cfg0.N) (a : Fin 512) (p : Fin 128 → Fin 1024) : EReal :=
  ∑ d, colKV m c t a (p d) * colKV m c t a (p d) + ∑ l : Fin 128, rot m c t a l * rot m c t a l

/-- The kernel's factor of a key: one over its root mean square. -/
def scale (c : Dev nD) (t : Fin cfg0.N) (a : Fin 512) (p : Fin 128 → Fin 1024) : EReal :=
  Ideal.rsqrt (squares m c t a p * (Named.named κ "inv_head" 0x3BAAAAAB#32 : Ideal .f32) + Ideal.ofBits .f32 0x358637BD#32)

/-- The keys of the reference over the kernel's arguments, before their norm. -/
abbrev K (c : Dev nD) : FVec Ideal Cert.ReferencePrepIdeal.S4x4096x4x192 .f32 := keys (expanded (CKV m c) (CKVG m c) (WKV m c)) (KR m c)

/-- A lane of the head's own. -/
theorem key_own (c : Dev nD) (t : Fin cfg0.N) (a : Fin 512) (j : Fin 1024) (h : Fin 4) (l : Fin 128) (hj : j.val = 128 * h.val + l.val) :
    colKV m c t a j = K m c (ix4 (seq t) (pos t a) h ⟨l.val, by omega⟩) := by
  show _ = keys _ _ _
  rw [keys_own _ _ _ _ _ _ l.isLt]
  exact colKV_at m c t a j 0 h l (by simpa using hj) _ _ (congrArg Fin.val (row_eq t a _)) (by simp)

/-- A rotary lane. -/
theorem key_rot (c : Dev nD) (t : Fin cfg0.N) (a : Fin 512) (h : Fin 4) (l : Fin 128) (l' : Fin 192) (hl : l'.val = 128 + l.val) :
    rot m c t a l = K m c (ix4 (seq t) (pos t a) h l') := by
  show _ = keys _ _ _
  unfold rot
  rw [keys_rot _ _ _ _ _ _ (by omega), row_eq, kr_at]
  exact congrArg (fun q => KR m c (ix2 (row t a) q)) (Fin.ext (by dsimp only; omega))

/-- The kernel's sum of squares is the reference's, where the rotary key's empty lanes are zero. -/
theorem squares_eq (c : Dev nD) (hR : ∀ (r : Fin 16384) (l : Fin 128), 64 ≤ l.val → KR m c (ix2 r l) = (0 : EReal))
    (t : Fin cfg0.N) (a : Fin 512) (p : Fin 128 → Fin 1024) (h : Fin 4) (hp : ∀ d, (p d).val = 128 * h.val + d.val) :
    squares m c t a p = ∑ d, K m c (ix4 (seq t) (pos t a) h d) * K m c (ix4 (seq t) (pos t a) h d) := by
  rw [Fin.sum_univ_add (a := 128) (b := 64) fun d : Fin 192 => K m c (ix4 (seq t) (pos t a) h d) * K m c (ix4 (seq t) (pos t a) h d)]
  unfold squares
  refine congrArg₂ (fun x y : EReal => x + y) ?_ ?_
  · exact Finset.sum_congr rfl fun d _ => by rw [key_own m c t a _ h d (hp d)]; rfl
  · rw [Fin.sum_univ_add (a := 64) (b := 64) fun l : Fin 128 => rot m c t a l * rot m c t a l]
    have hz : ∑ l : Fin 64, rot m c t a (Fin.natAdd 64 l) * rot m c t a (Fin.natAdd 64 l) = (0 : EReal) :=
      Finset.sum_eq_zero fun l _ => by
        unfold rot
        rw [kr_at, hR _ _ (by rw [Fin.coe_natAdd]; omega), mul_zero]
    rw [hz, add_zero]
    exact Finset.sum_congr rfl fun l _ => by
      rw [key_rot m c t a h _ (Fin.natAdd 128 l) (by rw [Fin.coe_natAdd, Fin.coe_castAdd])]

/-- The factor is a non-negative real. -/
theorem scale_real (c : Dev nD) (t : Fin cfg0.N) (a : Fin 512) (p : Fin 128 → Fin 1024) : ∃ v : ℝ, 0 ≤ v ∧ scale m c t a p = v := by
  have h0 : 0 ≤ squares m c t a p :=
    add_nonneg (Finset.sum_nonneg fun d _ => square_nonneg _) (Finset.sum_nonneg fun l _ => square_nonneg _)
  obtain ⟨e, he, hb⟩ := Cert.Reals.eps_pos
  unfold scale
  rw [inv_head, hb]
  generalize squares m c t a p = s at h0
  induction s using EReal.rec with
  | bot => exact absurd h0 (by simp)
  | top =>
    refine ⟨0, le_refl _, ?_⟩
    rw [EReal.top_mul_coe_of_pos (by norm_num), EReal.top_add_coe]
    rfl
  | coe s =>
    have hs : 0 ≤ s := by exact_mod_cast h0
    have hpos : 0 < s * (1 / 192) + e := by positivity
    refine ⟨(Real.sqrt (s * (1 / 192) + e))⁻¹, inv_nonneg.2 (Real.sqrt_nonneg _), ?_⟩
    rw [← EReal.coe_mul, ← EReal.coe_add, Ideal.rsqrt_coe, if_neg (not_lt.2 hpos.le), if_neg hpos.ne']

end Cert.KernelPrepIdeal.Result

end
-- ==== Proof.PrepQ.lean ====
module

public import proofs.«01_k».proof.Proof.PrepTurn
public import proofs.«01_k».proof.Proof.PrepHeads

/-! The kernel's queries are the reference's. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

/-- The reference's queries over the kernel's arguments. -/
abbrev Q (c : Dev nD) : FVec Ideal Cert.ReferencePrepIdeal.S4x4096x4x192 .f32 := headNorm (queries (CQ m c) (CQG m c) (WQ m c)) (QN m c)

section
variable (c : Dev nD) (t : Fin cfg0.N) (a : Fin 512) (p : Fin 256 → Fin 1024) (h : Fin 4) (hp : ∀ d, (p d).val = 256 * h.val + d.val)

include hp

/-- A lane of the first slab of a head. -/
theorem query_own (l : Fin 128) (i : Cert.ReferencePrepIdeal.S16384x1024.Idx) (hr : (i 0).val = 512 * t.val + a.val) (hj : (i 1).val = 256 * h.val + l.val) :
    laneQ m c t a p ⟨l.val, by omega⟩ = slabs (Q m c) i := by
  rw [eq_ix2 i, laneQ_at m c t a p h hp _ ⟨l.val, by omega⟩ rfl,
    slabs_own (Q m c) (i 0) (i 1) (seq t) (pos t a) h ⟨l.val, by omega⟩ (by unfold seq pos; dsimp only; omega) hj l.isLt]

/-- A lane of the second slab of a head. -/
theorem query_rot (l : Fin 128) (i : Cert.ReferencePrepIdeal.S16384x1024.Idx) (hr : (i 0).val = 512 * t.val + a.val) (hj : (i 1).val = 256 * h.val + 128 + l.val) :
    turn m c t a (fun i => laneQ m c t a p ⟨128 + i.val, by omega⟩) l = slabs (Q m c) i := by
  rw [eq_ix2 i]
  exact turn_slabs m c t a _ (fun i hi => laneQ_empty m c t a p h hp _ (by dsimp only; omega)) (Q m c) h
    (fun i => laneQ_at m c t a p h hp _ ⟨128 + i.val, by omega⟩ rfl) l (i 0) (i 1) hr hj

end

set_option maxHeartbeats 2000000 in
/-- The queries. -/
theorem final_13 (c : Dev nD) : (dats m 0 c).arrAt 13 (cfgs 0).N = slabs (Q m c) := by
  refine (dats m 0 c).arrAt_eq_of_covers 13 _ (by decide +kernel) fun t _ y => ?_
  have e0 : (((View.whole main_v37_0).slice (win0_13.rect t)).emb y 0).val = 512 * t.val + (y 0).val := by
    blk_simp [idx t]
    omega
  have e1 : (((View.whole main_v37_0).slice (win0_13.rect t)).emb y 1).val = (y 1).val := by blk_simp [idx t]
  blk_simp
  rw [after0_13]
  unfold_out out0_13
  frame_out
  canon_tiles x h
  · pointwise [k0_pay23, k0_pay21, k0_pay20]
    rw [table_10, table_11, table_12]
    refine Eq.trans ?_ (query_rot m c t (x 0) (fun d => ⟨768 + d.val, by omega⟩) 3 (fun d => rfl) (x 1) _ (by rw [e0, h0]) (by rw [e1, h1]; rfl))
    unfold turn laneQ colQ
    rfl
  · pointwise [k0_pay22, k0_pay21, k0_pay20]
    refine Eq.trans ?_ (query_own m c t (x 0) (fun d => ⟨768 + d.val, by omega⟩) 3 (fun d => rfl) (x 1) _ (by rw [e0, h0]) (by rw [e1, h1]; rfl))
    unfold laneQ colQ
    rfl
  · pointwise [k0_pay19, k0_pay17]
    rw [table_10, table_11, table_12]
    refine Eq.trans ?_ (query_rot m c t (x 0) (fun d => ⟨512 + d.val, by omega⟩) 2 (fun d => rfl) (x 1) _ (by rw [e0, h0]) (by rw [e1, h1]; rfl))
    unfold turn laneQ colQ
    rfl
  · pointwise [k0_pay18, k0_pay17]
    refine Eq.trans ?_ (query_own m c t (x 0) (fun d => ⟨512 + d.val, by omega⟩) 2 (fun d => rfl) (x 1) _ (by rw [e0, h0]) (by rw [e1, h1]; rfl))
    unfold laneQ colQ
    rfl
  · pointwise [k0_pay16, k0_pay14]
    rw [table_10, table_11, table_12]
    refine Eq.trans ?_ (query_rot m c t (x 0) (fun d => ⟨256 + d.val, by omega⟩) 1 (fun d => rfl) (x 1) _ (by rw [e0, h0]) (by rw [e1, h1]; rfl))
    unfold turn laneQ colQ
    rfl
  · pointwise [k0_pay15, k0_pay14]
    refine Eq.trans ?_ (query_own m c t (x 0) (fun d => ⟨256 + d.val, by omega⟩) 1 (fun d => rfl) (x 1) _ (by rw [e0, h0]) (by rw [e1, h1]; rfl))
    unfold laneQ colQ
    rfl
  · pointwise [k0_pay13, k0_pay11, k0_pay10, k0_pay9]
    rw [table_10, table_11, table_12]
    refine Eq.trans ?_ (query_rot m c t (x 0) (fun d => ⟨d.val, by omega⟩) 0 (fun d => (Nat.zero_add _).symm) (x 1) _ (by rw [e0, h0]) (by rw [e1, h1]; simp))
    unfold turn laneQ colQ
    rfl
  · pointwise [k0_pay12, k0_pay11, k0_pay10, k0_pay9]
    refine Eq.trans ?_ (query_own m c t (x 0) (fun d => ⟨d.val, by omega⟩) 0 (fun d => (Nat.zero_add _).symm) (x 1) _ (by rw [e0, h0]) (by rw [e1, h1]; simp))
    unfold laneQ colQ
    rfl

end Cert.KernelPrepIdeal.Result

end
-- ==== Proof.PrepK.lean ====
module

public import proofs.«01_k».proof.Proof.PrepTurn
public import proofs.«01_k».proof.Proof.PrepHeads

/-! The kernel's keys and values are the reference's. -/

@[expose] public section

set_option maxRecDepth 16384

noncomputable section

open Idealize.ShloMosaic Idealize.ShloMosaic.TcCoe Idealize.SL.Sem

namespace Cert.KernelPrepIdeal.Result

open Cert.KernelPrepIdeal Cert.KernelPrepIdeal.Gen Cert.ReferencePrepIdeal.Term

variable (m : (ℓ : Loc nD τ sig) → Buf (Elt Ideal) ℓ)

section
variable (c : Dev nD) (hR : ∀ (r : Fin 16384) (l : Fin 128), 64 ≤ l.val → KR m c (ix2 r l) = (0 : EReal)) (t : Fin cfg0.N)
  (a : Fin 512) (p : Fin 128 → Fin 1024) (h : Fin 4) (hp : ∀ d, (p d).val = 128 * h.val + d.val)

include hR hp

/-- The kernel's factor is the reference's. -/
theorem scale_eq (l : Fin 192) (g : EReal) (hg : g = KN m c (ix1 l)) (k : EReal) (hk : k = K m c (ix4 (seq t) (pos t a) h l)) :
    k * scale m c t a p * g = headNorm (K m c) (KN m c) (ix4 (seq t) (pos t a) h l) := by
  unfold scale
  rw [headNorm_at, squares_eq m c hR t a p h hp, hg, hk, inv_head, bits_192, Ideal.div_coe (by norm_num)]

/-- A lane of the first slab of a head. -/
theorem key_slab_own (l : Fin 128) (i : Cert.ReferencePrepIdeal.S16384x1024.Idx) (hr : (i 0).val = 512 * t.val + a.val)
    (hj : (i 1).val = 256 * h.val + l.val) :
    colKV m c t a (p l) * scale m c t a p * iblk m c 8 t (ix2 0 l) = slabs (headNorm (K m c) (KN m c)) i := by
  rw [eq_ix2 i, slabs_own (headNorm (K m c) (KN m c)) (i 0) (i 1) (seq t) (pos t a) h ⟨l.val, by omega⟩
    (by unfold seq pos; dsimp only; omega) hj l.isLt]
  exact scale_eq m c hR t a p h hp _ _ (kgn_at m c t 0 l) _ (key_own m c t a _ h l (hp l))

/-- A lane of the second slab of a head. -/
theorem key_slab_rot (l : Fin 128) (i : Cert.ReferencePrepIdeal.S16384x1024.Idx) (hr : (i 0).val = 512 * t.val + a.val)
    (hj : (i 1).val = 256 * h.val + 128 + l.val) :
    turn m c t a (fun d => rot m c t a d * iblk m c 9 t (ix2 0 d)) l * scale m c t a p = slabs (headNorm (K m c) (KN m c)) i := by
  obtain ⟨v, hv, hs⟩ := scale_real m c t a p
  rw [eq_ix2 i, hs, turn_mul m c t a _ l v hv, ← hs]
  refine turn_slabs m c t a _ (fun d hd => ?_) (headNorm (K m c) (KN m c)) h (fun d => ?_) l (i 0) (i 1) hr hj
  · dsimp only
    rw [kgr_empty m c t 0 d hd, mul_zero, zero_mul]
  · dsimp only
    rw [mul_swap]
    exact scale_eq m c hR t a p h hp _ _ (kgr_at m c t 0 _ d.isLt) _ (key_rot m c t a h _ _ rfl)

end

/-- The whole of the rotary key's block. -/
theorem rot_of (c : Dev nD) (t : Fin cfg0.N) (x : S512x128.Idx) : iblk m c 2 t x = rot m c t (x 0) (x 1) := by
  unfold rot
  exact congrArg (iblk m c 2 t) (eq_ix2 x)

/-- A value. -/
theorem value_at (c : Dev nD) (t : Fin cfg0.N) (a : Fin 512) (j : Fin 512) (i : Cert.ReferencePrepIdeal.S16384x512.Idx)
    (hr : (i 0).val = 512 * t.val + a.val) (hj : (i 1).val = j.val) :
    colKV m c t a ⟨512 + j.val, by omega⟩ = values (expanded (CKV m c) (CKVG m c) (WKV m c)) i := by
  have e : values (expanded (CKV m c) (CKVG m c) (WKV m c)) i
      = expanded (CKV m c) (CKVG m c) (WKV m c) (ix2 (i 0) ⟨256 * ((i 1).val / 128) + 128 + (i 1).val % 128, by omega⟩) :=
    (congrArg (values _) (eq_ix2 i)).trans (values_at _ (i 0) (i 1))
  rw [e]
  exact colKV_at m c t a _ 1 ⟨j.val / 128, by omega⟩ ⟨j.val % 128, by omega⟩ (by dsimp only; omega) _ _ hr
    (by dsimp only; rw [hj]; omega)

/-- The values. -/
theorem final_15 (c : Dev nD) : (dats m 0 c).arrAt 15 (cfgs 0).N = values (expanded (CKV m c) (CKVG m c) (WKV m c)) := by
  refine (dats m 0 c).arrAt_eq_of_covers 15 _ (by decide +kernel) fun t _ y => ?_
  have e0 : (((View.whole main_v37_2).slice (win0_15.rect t)).emb y 0).val = 512 * t.val + (y 0).val := by
    blk_simp [idx t]
    omega
  have e1 : (((View.whole main_v37_2).slice (win0_15.rect t)).emb y 1).val = (y 1).val := by blk_simp [idx t]
  blk_simp
  rw [after0_15]
  unfold_out out0_15
  frame_out
  pointwise [k0_pay4]
  refine Eq.trans ?_ (value_at m c t (y 0) (y 1) _ e0 e1)
  unfold colKV
  rfl

set_option maxHeartbeats 2000000 in
/-- The keys. -/
theorem final_14 (c : Dev nD) (hR : ∀ (r : Fin 16384) (l : Fin 128), 64 ≤ l.val → KR m c (ix2 r l) = (0 : EReal)) :
    (dats m 0 c).arrAt 14 (cfgs 0).N = slabs (headNorm (K m c) (KN m c)) := by
  refine (dats m 0 c).arrAt_eq_of_covers 14 _ (by decide +kernel) fun t _ y => ?_
  have e0 : (((View.whole main_v37_1).slice (win0_14.rect t)).emb y 0).val = 512 * t.val + (y 0).val := by
    blk_simp [idx t]
    omega
  have e1 : (((View.whole main_v37_1).slice (win0_14.rect t)).emb y 1).val = (y 1).val := by blk_simp [idx t]
  blk_simp
  rw [after0_14]
  unfold_out out0_14
  frame_out
  canon_tiles x h
  · pointwise [k0_pay3, k0_pay1, k0_pay42, k0_pay41, k0_pay27, k0_pay26, k0_pay25]
    rw [table_10, table_11, table_12, rot_of m c t x]
    refine Eq.trans ?_ (key_slab_rot m c hR t (x 0) (fun d => ⟨384 + d.val, by omega⟩) 3 (fun d => rfl) (x 1) _ (by rw [e0, h0]) (by rw [e1, h1]; rfl))
    unfold turn scale squares colKV
    rfl
  · pointwise [k0_pay2, k0_pay1, k0_pay42, k0_pay41, k0_pay27, k0_pay26, k0_pay25]
    refine Eq.trans ?_ (key_slab_own m c hR t (x 0) (fun d => ⟨384 + d.val, by omega⟩) 3 (fun d => rfl) (x 1) _ (by rw [e0, h0]) (by rw [e1, h1]; rfl))
    unfold scale squares colKV
    rfl
  · pointwise [k0_pay40, k0_pay38, k0_pay37, k0_pay27, k0_pay26, k0_pay25]
    rw [table_10, table_11, table_12, rot_of m c t x]
    refine Eq.trans ?_ (key_slab_rot m c hR t (x 0) (fun d => ⟨256 + d.val, by omega⟩) 2 (fun d => rfl) (x 1) _ (by rw [e0, h0]) (by rw [e1, h1]; rfl))
    unfold turn scale squares colKV
    rfl
  · pointwise [k0_pay39, k0_pay38, k0_pay37, k0_pay27, k0_pay26, k0_pay25]
    refine Eq.trans ?_ (key_slab_own m c hR t (x 0) (fun d => ⟨256 + d.val, by omega⟩) 2 (fun d => rfl) (x 1) _ (by rw [e0, h0]) (by rw [e1, h1]; rfl))
    unfold scale squares colKV
    rfl
  · pointwise [k0_pay36, k0_pay34, k0_pay33, k0_pay32, k0_pay27, k0_pay26, k0_pay25]
    rw [table_10, table_11, table_12, rot_of m c t x]
    refine Eq.trans ?_ (key_slab_rot m c hR t (x 0) (fun d => ⟨128 + d.val, by omega⟩) 1 (fun d => rfl) (x 1) _ (by rw [e0, h0]) (by rw [e1, h1]; rfl))
    unfold turn scale squares colKV
    rfl
  · pointwise [k0_pay35, k0_pay34, k0_pay33, k0_pay32, k0_pay27, k0_pay26, k0_pay25]
    refine Eq.trans ?_ (key_slab_own m c hR t (x 0) (fun d => ⟨128 + d.val, by omega⟩) 1 (fun d => rfl) (x 1) _ (by rw [e0, h0]) (by rw [e1, h1]; rfl))
    unfold scale squares colKV
    rfl
  · pointwise [k0_pay31, k0_pay29, k0_pay28, k0_pay27, k0_pay26, k0_pay25]
    rw [table_10, table_11, table_12, rot_of m c t x]
    refine Eq.trans ?_ (key_slab_rot m c hR t (x 0) (fun d => ⟨d.val, by omega⟩) 0 (fun d => (Nat.zero_add _).symm) (x 1) _ (by rw [e0, h0]) (by rw [e1, h1]; simp))
    unfold turn scale squares colKV
    rfl
  · pointwise [k0_pay30, k0_pay29, k0_pay28, k0_pay27, k0_pay26, k0_pay25]
    refine Eq.trans ?_ (key_slab_own m c hR t (x 0) (fun d => ⟨d.val, by omega⟩) 0 (fun d => (Nat.zero_add _).symm) (x 1) _ (by rw [e0, h0]) (by rw [e1, h1]; simp))
    unfold scale squares colKV
    rfl

end Cert.KernelPrepIdeal.Result

end
-- ==== Proof.PrepPair.lean ====
module

public import proofs.«01_k».proof.Defs
public import proofs.«01_k».proof.Proof.AttnFinite
public import proofs.«01_k».proof.Proof.PrepQ
public import proofs.«01_k».proof.Proof.PrepK
public import proofs.«01_k».proof.Proof.Gen.KernelPrepIdeal.Value
public import Idealize.ShloMosaic.Adequacy
public import Idealize.ShloMosaic.Init

/-! The preparation of queries, keys and values: what its precondition says, and the kernel's run and the reference's side by
side. -/

@[expose] public section

set_option maxRecDepth 16384

noncomputable section

open Idealize.ShloMosaic Idealize.ShloMosaic.TcCoe Idealize.SL.Sem

namespace Cert.Pre_padded

/-- The side conditions of the precondition's operations. -/
instance facts : Cert.Pre_padded.Facts where
  slices_S16384x128_S16384x64_0_64 := by decide
  bcast_S_S16384x64 := by decide
  reducesTo_S16384x64_S_d0_1 := by decide
  h_S_ := by decide

/-- Under the precondition the rotary key is zero past lane 64. -/
theorem empty_lanes (A B : FVec Ideal S16384x256 .f32) (R : FVec Ideal S16384x128 .f32) (C D : FVec Ideal S256 .f32)
    (U : FVec Ideal S256x768 .f32) (V : FVec Ideal S256x1024 .f32) (E F : FVec Ideal S192 .f32)
    (h : fn (F := Ideal) A B R C D U V E F = fun _ => 1#1) (r : Fin 16384) (l : Fin 128) (hl : 64 ≤ l.val) : R (ix2 r l) = (0 : EReal) := by
  have : Subsingleton S_.Idx := ⟨fun a b => funext fun k => k.elim0⟩
  have hi := Host.reduce_andi_all _ _ _ _ _ (congrFun h fun a => a.elim0) (ix2 r ⟨l.val - 64, by omega⟩)
  pointwise at hi
  have e : (⟨64 + (l.val - 64), by omega⟩ : Fin 128) = l := Fin.ext (by dsimp only; omega)
  have hz : R (ix2 r ⟨64 + (l.val - 64), by omega⟩) = (0 : EReal) := by
    refine Eq.trans (Pre_finite.of_bit _ hi) ?_
    simp [Ideal.ofBits, Ideal.ieee]
  rw [← e]
  exact hz

end Cert.Pre_padded

namespace Cert.KernelPrepIdeal.Result

open Cert.KernelPrepIdeal Cert.KernelPrepIdeal.Gen Cert.ReferencePrepIdeal.Term

set_option maxHeartbeats 2000000 in
/-- The kernel's run. -/
theorem run (m : (ℓ : Loc nD τ sig) → Buf (Elt Ideal) ℓ) (g : Dev nD → PrngReg)
    (hR : ∀ c, ∀ (r : Fin 16384) (l : Fin 128), 64 ≤ l.val → KR m c (ix2 r l) = (0 : EReal)) :
    θ_run (defs (F := Ideal)) (onTc (τ := τ) (main (F := Ideal))) ⟨m, fun _ => 0, g⟩ fun r => ∀ c : Dev nD,
      r.2.mem ((c.tc : Thread nD τ).loc main_v37_0) = slabs (Q m c)
      ∧ r.2.mem ((c.tc : Thread nD τ).loc main_v37_1) = slabs (headNorm (K m c) (KN m c))
      ∧ r.2.mem ((c.tc : Thread nD τ).loc main_v37_2) = values (expanded (CKV m c) (CKVG m c) (WKV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (θ_run_and (run_main m g) (unchanged m g))
  have hc := h.1 c
  exact ⟨Eq.trans (hc.left 13) (final_13 m c), Eq.trans (hc.left 14) (final_14 m c (hR c)),
    Eq.trans (hc.left 15) (final_15 m c), h.2 c⟩

end Cert.KernelPrepIdeal.Result

namespace Cert.Proof

open Cert.ReferencePrepIdeal.Term Cert.KernelPrepIdeal.Result

set_option maxHeartbeats 2000000 in
/-- The reference's results are the kernel's. -/
theorem prep_value : algebraic_KernelPrepIdeal_ReferencePrepIdeal_pre_padded := by
  intro m g m' g' hpre hagree
  refine ⟨fun c => slabs (Q m c), fun c => slabs (headNorm (K m c) (KN m c)), fun c => values (expanded (CKV m c) (CKVG m c) (WKV m c)),
    run m g fun c => Cert.Pre_padded.empty_lanes _ _ _ _ _ _ _ _ _ (hpre c),
    (θ_run Cert.ReferencePrepIdeal.defs _ _).mono (fun r h c => ?_) (Cert.ReferencePrepIdeal.Value.run m' g')⟩
  obtain ⟨e0, e1, e2, e3, e4, e5, e6, e7, e8⟩ := hagree c
  obtain ⟨h0, h1, h2, hargs⟩ := h c
  refine ⟨h0.trans ?_, h1.trans ?_, h2.trans ?_, hargs⟩
  · unfold Cert.ReferencePrepIdeal.Value.res_main_v114
    rw [e0, e3, e5, e7]
    rfl
  · unfold Cert.ReferencePrepIdeal.Value.res_main_v117
    rw [e1, e2, e4, e6, e8]
    rfl
  · rw [e1, e4, e6]
    rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelInproj
public import proofs.«01_k».proof.Proof.Gen.KernelInproj.Frame
public import proofs.«01_k».proof.Proof.Gen.KernelInprojIdeal
public import proofs.«01_k».proof.Proof.Gen.KernelInprojIdeal.Value
public import proofs.«01_k».proof.Proof.Gen.ReferenceInprojIdeal
public import proofs.«01_k».proof.Proof.Gen.ReferenceInprojIdeal.Run
public import proofs.«01_k».proof.Proof.Gen.KernelPrep
public import proofs.«01_k».proof.Proof.Gen.KernelPrep.Frame
public import proofs.«01_k».proof.Proof.Gen.KernelPrepIdeal
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.AttnValue
public import proofs.«01_k».proof.Proof.AttnFinite
public import proofs.«01_k».proof.Proof.FfnValue
public import proofs.«01_k».proof.Proof.MergeValue
public import proofs.«01_k».proof.Proof.InprojPair
public import proofs.«01_k».proof.Proof.PrepPair
public import Idealize.ShloMosaic.Adequacy
public import Idealize.ShloMosaic.Init

@[expose] public section

noncomputable section

namespace Cert.Proof

open Idealize.ShloMosaic Idealize.SL.Sem

/-! The attention. -/

theorem attn_frame : quiescent_Kernel := fun m g _ => Cert.Kernel.Gen.frame m g

theorem attn_frame_ideal : quiescent_KernelIdeal := fun m g _ => Cert.KernelIdeal.Gen.frame m g

theorem attn_frame_ideal_finite : quiescent_KernelIdeal_pre_finite := fun m g _ => Cert.KernelIdeal.Gen.frame m g

theorem attn_frame_ref : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem attn_frame_ref_finite : quiescent_ReferenceIdeal_pre_finite := fun m g _ =>
  (θ_run Cert.ReferenceIdeal.defs _ _).mono (fun r h => ⟨fun c => (h c).2, sem_eq_zero_of_no_sems (by decide) r.2⟩)
    (Cert.ReferenceIdeal.Value.run m g)

theorem attn_value : algebraic_KernelIdeal_ReferenceIdeal_pre_finite := by
  pair_intro
  · run_from Cert.KernelIdeal.Gen.run_main m g
  · run_from Cert.ReferenceIdeal.Value.run m' g'
    obtain ⟨hQ, hK⟩ := Cert.Pre_finite.real_inputs _ _ _ (hpre c)
    exact (Cert.KernelIdeal.Result.final m c hQ hK).symm

/-! The feed-forward half-step. -/

theorem ffn_frame : quiescent_KernelFfn := fun m g _ => Cert.KernelFfn.Gen.frame m g

theorem ffn_frame_ideal : quiescent_KernelFfnIdeal := fun m g _ => Cert.KernelFfnIdeal.Gen.frame m g

theorem ffn_frame_ref : quiescent_ReferenceFfnIdeal := fun m g _ =>
  (θ_run Cert.ReferenceFfnIdeal.defs _ _).mono (fun r h => ⟨fun c => (h c).2, sem_eq_zero_of_no_sems (by decide) r.2⟩)
    (Cert.ReferenceFfnIdeal.Value.run m g)

theorem ffn_value : algebraic_KernelFfnIdeal_ReferenceFfnIdeal := by
  pair_intro
  · run_from Cert.KernelFfnIdeal.Gen.run_main m g
  · run_from Cert.ReferenceFfnIdeal.Value.run m' g'
    exact (Cert.KernelFfnIdeal.Result.final m c).symm

/-! The merge of the branches. -/

theorem merge_frame : quiescent_KernelMerge := fun m g _ => Cert.KernelMerge.Gen.frame m g

theorem merge_frame_ideal : quiescent_KernelMergeIdeal := fun m g _ => Cert.KernelMergeIdeal.Gen.frame m g

theorem merge_frame_ref : quiescent_ReferenceMergeIdeal := fun m g _ =>
  (θ_run Cert.ReferenceMergeIdeal.defs _ _).mono (fun r h => ⟨fun c => (h c).2, sem_eq_zero_of_no_sems (by decide) r.2⟩)
    (Cert.ReferenceMergeIdeal.Value.run m g)

theorem merge_value : algebraic_KernelMergeIdeal_ReferenceMergeIdeal := by
  pair_intro
  · run_from Cert.KernelMergeIdeal.Gen.run_main m g
  · run_from Cert.ReferenceMergeIdeal.Value.run m' g'
    exact (Cert.KernelMergeIdeal.Result.final m c).symm

/-! The input projection. -/

theorem inproj_frame : quiescent_KernelInproj := fun m g _ => Cert.KernelInproj.Gen.frame m g

theorem inproj_frame_ideal : quiescent_KernelInprojIdeal := fun m g _ => Cert.KernelInprojIdeal.Gen.frame m g

theorem inproj_frame_ideal_finite : quiescent_KernelInprojIdeal_pre_finite_inproj := fun m g _ =>
  Cert.KernelInprojIdeal.Gen.frame m g

theorem inproj_frame_ref : quiescent_ReferenceInprojIdeal := fun m g _ =>
  (θ_run Cert.ReferenceInprojIdeal.defs _ _).mono
    (fun r h => ⟨fun c => (h c).2.2.2.2.2.2.2.2.2.2.2.2, sem_eq_zero_of_no_sems (by decide) r.2⟩)
    (Cert.ReferenceInprojIdeal.Value.run m g)

theorem inproj_frame_ref_finite : quiescent_ReferenceInprojIdeal_pre_finite_inproj := fun m g _ =>
  (θ_run Cert.ReferenceInprojIdeal.defs _ _).mono
    (fun r h => ⟨fun c => (h c).2.2.2.2.2.2.2.2.2.2.2.2, sem_eq_zero_of_no_sems (by decide) r.2⟩)
    (Cert.ReferenceInprojIdeal.Value.run m g)

/-! The preparation of the latent attention's queries, keys and values. -/

theorem prep_frame : quiescent_KernelPrep := fun m g _ => Cert.KernelPrep.Gen.frame m g

theorem prep_frame_ideal : quiescent_KernelPrepIdeal := fun m g _ => Cert.KernelPrepIdeal.Gen.frame m g

theorem prep_frame_ideal_padded : quiescent_KernelPrepIdeal_pre_padded := fun m g _ => Cert.KernelPrepIdeal.Gen.frame m g

theorem prep_frame_ref : quiescent_ReferencePrepIdeal := fun m g _ =>
  (θ_run Cert.ReferencePrepIdeal.defs _ _).mono (fun r h => ⟨fun c => (h c).2.2.2, sem_eq_zero_of_no_sems (by decide) r.2⟩)
    (Cert.ReferencePrepIdeal.Value.run m g)

theorem prep_frame_ref_padded : quiescent_ReferencePrepIdeal_pre_padded := fun m g _ =>
  (θ_run Cert.ReferencePrepIdeal.defs _ _).mono (fun r h => ⟨fun c => (h c).2.2.2, sem_eq_zero_of_no_sems (by decide) r.2⟩)
    (Cert.ReferencePrepIdeal.Value.run m g)

theorem prep_preserves : preserves_KernelPrep_KernelPrepIdeal :=
  IdealRules.named_const.statement Cert.KernelPrepIdeal.κ "inv_head" .f32 0x3BAAAAAB#32 ((1 / 192 : ℝ) : EReal) rfl

/-- Everything the certificate claims. -/
theorem claim : Cert.Claim :=
  ⟨Cert.Kernel.Gen.facts, Cert.KernelIdeal.Gen.facts, Cert.ReferenceIdeal.Gen.facts, Cert.KernelFfn.Gen.facts,
    Cert.KernelFfnIdeal.Gen.facts, Cert.ReferenceFfnIdeal.Gen.facts, Cert.KernelMerge.Gen.facts,
    Cert.KernelMergeIdeal.Gen.facts, Cert.ReferenceMergeIdeal.Gen.facts, Cert.KernelInproj.Gen.facts,
    Cert.KernelInprojIdeal.Gen.facts, Cert.ReferenceInprojIdeal.Gen.facts, Cert.KernelPrep.Gen.facts,
    Cert.KernelPrepIdeal.Gen.facts, Cert.ReferencePrepIdeal.Gen.facts, Cert.Pre_finite.facts, Cert.Pre_finite_inproj.facts,
    Cert.Pre_padded.facts,
    attn_frame, attn_frame_ideal, attn_frame_ideal_finite, attn_frame_ref, attn_frame_ref_finite,
    ffn_frame, ffn_frame_ideal, ffn_frame_ref, merge_frame, merge_frame_ideal, merge_frame_ref,
    inproj_frame, inproj_frame_ideal, inproj_frame_ideal_finite, inproj_frame_ref, inproj_frame_ref_finite,
    prep_frame, prep_frame_ideal, prep_frame_ideal_padded, prep_frame_ref, prep_frame_ref_padded,
    trivial, attn_value, trivial, ffn_value, trivial, merge_value, trivial, inproj_value,
    prep_preserves, prep_value⟩

end Cert.Proof

end
